-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S11000000 : Shape := ⟨1, ![11000000]⟩
abbrev S2000000 : Shape := ⟨1, ![2000000]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel

variable [Facts]

def fn {F : FTy → Type} [FloatOps F] (main_arg0 : FVec F S11000000 .f32) (main_arg1 : IVec S2000000 32) : IVec S_ 1 :=
  let main_c : IVec S_ 32 := constantI S_ 32 0#32
  let main_v0 : IVec S2000000 32 := broadcastInDim S2000000 ![] bcast_S_S2000000 main_c
  let main_v1 : IVec S2000000 1 := cmpi .sge main_arg1 main_v0
  let main_c_0 : IVec S_ 32 := constantI S_ 32 10#32
  let main_v2 : IVec S2000000 32 := broadcastInDim S2000000 ![] bcast_S_S2000000 main_c_0
  let main_v3 : IVec S2000000 1 := cmpi .sle main_arg1 main_v2
  let main_v4 : IVec S2000000 1 := andi main_v1 main_v3
  let main_c_1 : IVec S_ 1 := constantI S_ 1 1#1
  let main_v5 : IVec S_ 1 := (fun x v => Host.reduce IntOp.andi x v reducesTo_S2000000_S_d0 h_S_) main_v4 main_c_1
  let main_c_2 : IVec S_ 32 := constantI S_ 32 0#32
  let main_v6 : IVec S_ 32 := (fun x v => Host.reduce IntOp.addi x v reducesTo_S2000000_S_d0 h_S_) main_arg1 main_c_2
  let main_c_3 : IVec S_ 32 := constantI S_ 32 11000000#32
  let main_v7 : IVec S_ 1 := cmpi .sge main_v6 main_c_3
  let main_v8 : IVec S_ 1 := andi main_v5 main_v7
  main_v8
-- ==== Kernel.lean ====
abbrev S11000000 : Shape := ⟨1, ![11000000]⟩
abbrev S2000000 : Shape := ⟨1, ![2000000]⟩
abbrev S55x3125x64 : Shape := ⟨3, ![55, 3125, 64]⟩
abbrev S32x3125x64 : Shape := ⟨3, ![32, 3125, 64]⟩
abbrev S32 : Shape := ⟨1, ![32]⟩
abbrev S1 : Shape := ⟨1, ![1]⟩
abbrev S_ : Shape := ⟨0, ![]⟩
abbrev S1x3125x64 : Shape := ⟨3, ![1, 3125, 64]⟩

abbrev nBuf : Space → Nat
  | .hbm => 5
  | .vmem => 1
  | .smem => 0
  | _ => 0

abbrev bufTy : (tb : Table) → Fin (tcTables nBuf tb) → BufTy
  | .hbm, ⟨0, _⟩ => ⟨S11000000, .f32⟩
  | .hbm, ⟨1, _⟩ => ⟨S2000000, .i32⟩
  | .hbm, ⟨2, _⟩ => ⟨S55x3125x64, .f32⟩
  | .hbm, ⟨3, _⟩ => ⟨S55x3125x64, .f32⟩
  | .hbm, ⟨4, _⟩ => ⟨S11000000, .f32⟩
  | .local _ .vmem, ⟨0, _⟩ => ⟨S32x3125x64, .f32⟩
  | _, _ => ⟨S11000000, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S11000000 : Shape := ⟨1, ![11000000]⟩
abbrev S2000000 : Shape := ⟨1, ![2000000]⟩
abbrev S_ : Shape := ⟨0, ![]⟩
abbrev S1 : Shape := ⟨1, ![1]⟩
abbrev S2000001 : Shape := ⟨1, ![2000001]⟩
abbrev S10 : Shape := ⟨1, ![10]⟩
abbrev S2000000x1 : Shape := ⟨2, ![2000000, 1]⟩
abbrev S1x10 : Shape := ⟨2, ![1, 10]⟩
abbrev S2000000x10 : Shape := ⟨2, ![2000000, 10]⟩
abbrev S2000000x10x1 : Shape := ⟨3, ![2000000, 10, 1]⟩
abbrev S1x2000001 : Shape := ⟨2, ![1, 2000001]⟩
abbrev S11000000x1 : Shape := ⟨2, ![11000000, 1]⟩
abbrev S11000000x2000001 : Shape := ⟨2, ![11000000, 2000001]⟩
abbrev S11000000x2 : Shape := ⟨2, ![11000000, 2]⟩

abbrev nBuf : Space → Nat
  | .hbm => 90
  | .vmem => 0
  | .smem => 0
  | _ => 0

abbrev bufTy : (tb : Table) → Fin (tcTables nBuf tb) → BufTy
  | .hbm, ⟨0, _⟩ => ⟨S11000000, .f32⟩
  | .hbm, ⟨1, _⟩ => ⟨S2000000, .i32⟩
  | .hbm, ⟨2, _⟩ => ⟨S_, .i32⟩
  | .hbm, ⟨3, _⟩ => ⟨S2000000, .i32⟩
  | .hbm, ⟨4, _⟩ => ⟨S2000000, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S2000000, .i32⟩
  | .hbm, ⟨10, _⟩ => ⟨S2000001, .i32⟩
  | .hbm, ⟨11, _⟩ => ⟨S10, .i32⟩
  | .hbm, ⟨12, _⟩ => ⟨S2000000, .i32⟩
  | .hbm, ⟨13, _⟩ => ⟨S2000000x1, .i32⟩
  | .hbm, ⟨14, _⟩ => ⟨S1x10, .i32⟩
  | .hbm, ⟨15, _⟩ => ⟨S2000000x10, .i32⟩
  | .hbm, ⟨16, _⟩ => ⟨S2000000x10, .i32⟩
  | .hbm, ⟨17, _⟩ => ⟨S2000000x10, .i32⟩
  | .hbm, ⟨18, _⟩ => ⟨S1x10, .i32⟩
  | .hbm, ⟨19, _⟩ => ⟨S2000000x1, .i32⟩
  | .hbm, ⟨20, _⟩ => ⟨S2000000x10, .i32⟩
  | .hbm, ⟨21, _⟩ => ⟨S2000000x10, .i32⟩
  | .hbm, ⟨22, _⟩ => ⟨S2000000x10, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2000000x10, .i32⟩
  | .hbm, ⟨27, _⟩ => ⟨S2000000x10, .i32⟩
  | .hbm, ⟨28, _⟩ => ⟨S_, .i32⟩
  | .hbm, ⟨29, _⟩ => ⟨S2000000x10, .i32⟩
  | .hbm, ⟨30, _⟩ => ⟨S2000000x10, .i32⟩
  | .hbm, ⟨31, _⟩ => ⟨S_, .i32⟩
  | .hbm, ⟨32, _⟩ => ⟨S2000000x10, .i32⟩
  | .hbm, ⟨33, _⟩ => ⟨S2000000x10, .i1⟩
  | .hbm, ⟨34, _⟩ => ⟨S_, .i32⟩
  | .hbm, ⟨35, _⟩ => ⟨S2000000x10, .i32⟩
  | .hbm, ⟨36, _⟩ => ⟨S2000000x10, .i32⟩
  | .hbm, ⟨37, _⟩ => ⟨S2000000x10, .i32⟩
  | .hbm, ⟨38, _⟩ => ⟨S2000000x10x1, .i32⟩
  | .hbm, ⟨39, _⟩ => ⟨S2000000x10, .f32⟩
  | .hbm, ⟨40, _⟩ => ⟨S_, .f32⟩
  | .hbm, ⟨41, _⟩ => ⟨S_, .f32⟩
  | .hbm, ⟨42, _⟩ => ⟨S2000000x10, .f32⟩
  | .hbm, ⟨43, _⟩ => ⟨S2000000x10, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S_, .i32⟩
  | .hbm, ⟨48, _⟩ => ⟨S2000000, .i32⟩
  | .hbm, ⟨49, _⟩ => ⟨S2000001, .i32⟩
  | .hbm, ⟨50, _⟩ => ⟨S11000000, .i32⟩
  | .hbm, ⟨51, _⟩ => ⟨S1x2000001, .i32⟩
  | .hbm, ⟨52, _⟩ => ⟨S11000000x1, .i32⟩
  | .hbm, ⟨53, _⟩ => ⟨S11000000x2000001, .i32⟩
  | .hbm, ⟨54, _⟩ => ⟨S11000000x2000001, .i32⟩
  | .hbm, ⟨55, _⟩ => ⟨S11000000x2000001, .i1⟩
  | .hbm, ⟨56, _⟩ => ⟨S11000000x2000001, .i32⟩
  | .hbm, ⟨57, _⟩ => ⟨S_, .i32⟩
  | .hbm, ⟨58, _⟩ => ⟨S11000000, .i32⟩
  | .hbm, ⟨59, _⟩ => ⟨S_, .i32⟩
  | .hbm, ⟨60, _⟩ => ⟨S11000000, .i32⟩
  | .hbm, ⟨61, _⟩ => ⟨S11000000, .i32⟩
  | .hbm, ⟨62, _⟩ => ⟨S_, .i32⟩
  | .hbm, ⟨63, _⟩ => ⟨S11000000, .i32⟩
  | .hbm, ⟨64, _⟩ => ⟨S11000000, .i1⟩
  | .hbm, ⟨65, _⟩ => ⟨S_, .i32⟩
  | .hbm, ⟨66, _⟩ => ⟨S11000000, .i32⟩
  | .hbm, ⟨67, _⟩ => ⟨S11000000, .i32⟩
  | .hbm, ⟨68, _⟩ => ⟨S11000000, .i32⟩
  | .hbm, ⟨69, _⟩ => ⟨S11000000x1, .i32⟩
  | .hbm, ⟨70, _⟩ => ⟨S11000000, .i32⟩
  | .hbm, ⟨71, _⟩ => ⟨S11000000, .i32⟩
  | .hbm, ⟨72, _⟩ => ⟨S_, .i32⟩
  | .hbm, ⟨73, _⟩ => ⟨S11000000, .i32⟩
  | .hbm, ⟨74, _⟩ => ⟨S11000000, .i1⟩
  | .hbm, ⟨75, _⟩ => ⟨S_, .i32⟩
  | .hbm, ⟨76, _⟩ => ⟨S11000000, .i32⟩
  | .hbm, ⟨77, _⟩ => ⟨S11000000, .i32⟩
  | .hbm, ⟨78, _⟩ => ⟨S11000000, .i32⟩
  | .hbm, ⟨79, _⟩ => ⟨S_, .i32⟩
  | .hbm, ⟨80, _⟩ => ⟨S11000000, .i32⟩
  | .hbm, ⟨81, _⟩ => ⟨S11000000, .i1⟩
  | .hbm, ⟨82, _⟩ => ⟨S_, .i32⟩
  | .hbm, ⟨83, _⟩ => ⟨S11000000, .i32⟩
  | .hbm, ⟨84, _⟩ => ⟨S11000000, .i32⟩
  | .hbm, ⟨85, _⟩ => ⟨S11000000, .i32⟩
  | .hbm, ⟨86, _⟩ => ⟨S11000000x1, .i32⟩
  | .hbm, ⟨87, _⟩ => ⟨S11000000x1, .i32⟩
  | .hbm, ⟨88, _⟩ => ⟨S11000000x2, .i32⟩
  | .hbm, ⟨89, _⟩ => ⟨S11000000, .f32⟩
  | _, _ => ⟨S11000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_call3_call0_c : Ref sig .tc := ⟨.hbm, 46, rfl⟩
abbrev main_call3_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.Ring.lean ====
/-
  A copy through a ring of slots, over any buffers. Chunk `i` of a source buffer is loaded into slot `turn i` by a transfer that
  completes on that slot's load semaphore, and stored from the slot to chunk `i` of the destination by a transfer that completes
  on the slot's store semaphore. A program is a list of the four operations (load, wait for the load, store, wait for the store),
  in any order. `exec` follows the phase of every chunk and whether every slot is free, and refuses an operation out of turn;
  `run` says that a list `exec` accepts is run by the core from the resources of the first state to those of the last.
-/
module

public import Idealize.ShloMosaic.Lib.Pipeline.Frame
public import Idealize.ShloMosaic.Lib.Memref
public import Idealize.ShloMosaic.Lib.Tactic
public import Idealize.ShloMosaic.Lib.Transfers

@[expose] public section

noncomputable section

namespace Cert.CopyRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The operations and the phases -/

/-- The four operations on a chunk. -/
inductive Op (n : ℕ) where
  | load (i : Fin n)
  | waitLoad (i : Fin n)
  | store (i : Fin n)
  | waitStore (i : Fin n)

/-- What has been done for a chunk. -/
inductive Phase where
  | idle | loading | loaded | storing | done
deriving DecidableEq

/-- The phase of every chunk, and whether every slot is free. -/
structure St (n k : ℕ) where
  chunk : Fin n → Phase
  free : Fin k → Bool

variable {n k : ℕ}

/-- One operation on the phases: `none` if the chunk is not in the phase the operation takes it from, or if a load finds its slot
    taken. -/
def step (turn : Fin n → Fin k) (st : St n k) : Op n → Option (St n k)
  | .load i => if st.chunk i = .idle ∧ st.free (turn i) = true then
      some ⟨Function.update st.chunk i .loading, Function.update st.free (turn i) false⟩ else none
  | .waitLoad i => if st.chunk i = .loading then some ⟨Function.update st.chunk i .loaded, st.free⟩ else none
  | .store i => if st.chunk i = .loaded then some ⟨Function.update st.chunk i .storing, st.free⟩ else none
  | .waitStore i => if st.chunk i = .storing ∧ st.free (turn i) = false then
      some ⟨Function.update st.chunk i .done, Function.update st.free (turn i) true⟩ else none

/-- A list of operations on the phases. -/
def exec (turn : Fin n → Fin k) : List (Op n) → St n k → Option (St n k)
  | [], st => some st
  | o :: os, st => (step turn st o).bind (exec turn os)

/-- Nothing has been done and every slot is free. -/
def St.start : St n k := ⟨fun _ => .idle, fun _ => true⟩
/-- Every chunk has been copied and every slot is free. -/
def St.finish : St n k := ⟨fun _ => .done, fun _ => true⟩

/-! ## The buffers and the program -/

/-- The chunks, the slots, their semaphores, and what a transfer asks of its two ends. -/
structure Bufs (nD : ℕ) (τ : Topo) (sig : RefSig) (s : Shape) (e : EltTy) (n k : ℕ) where
  src : Fin n → Memref sig .tc .hbm s e
  dst : Fin n → Memref sig .tc .hbm s e
  slot : Fin k → Memref sig .tc .vmem s e
  loadSem : Fin k → DmaSem sig
  storeSem : Fin k → DmaSem sig
  turn : Fin n → Fin k
  srcExact : ∀ i, (src i).view.WordExact
  dstExact : ∀ i, (dst i).view.WordExact
  slotExact : ∀ j, (slot j).view.WordExact
  loadTyped : ∀ j, (DmaTarget.here (slot j) : DmaTarget nD τ sig .tc .vmem s e).Typed .hbm (.dma (loadSem j))
  storeTyped : ∀ i, (DmaTarget.here (dst i) : DmaTarget nD τ sig .tc .hbm s e).Typed .vmem (.dma (storeSem (turn i)))
  nonempty : 0 < s.numel

variable {nD : ℕ} {τ : Topo} {sig : RefSig} {Val : EltTy → Type} {Λ : Labels} {s : Shape} {e : EltTy}

/-- The effect of an operation. -/
def Bufs.eff (B : Bufs nD τ sig s e n k) : Op n → TpuEff nD τ sig Val Λ .tc PUnit
  | .load i => .enqueueDma (B.src i) (.here (B.slot (B.turn i))) (.dma (B.loadSem (B.turn i))) (B.srcExact i) (B.slotExact _) (B.loadTyped _)
  | .waitLoad i => .waitDma2 (B.loadSem (B.turn i)) (B.src i) (B.slot (B.turn i)) (B.srcExact i) (B.slotExact _)
  | .store i => .enqueueDma (B.slot (B.turn i)) (.here (B.dst i)) (.dma (B.storeSem (B.turn i))) (B.slotExact _) (B.dstExact i) (B.storeTyped i)
  | .waitStore i => .waitDma2 (B.storeSem (B.turn i)) (B.slot (B.turn i)) (B.dst i) (B.slotExact _) (B.dstExact i)

/-- The program that runs a list of operations. -/
def Bufs.prog (B : Bufs nD τ sig s e n k) : List (Op n) → Prog (TpuEff nD τ sig Val Λ .tc) PUnit
  | [] => .ret ⟨⟩
  | o :: os => .op (B.eff o) fun _ => B.prog os

/-! ## The resources -/

local notation "𝕄" => MT nD τ sig Unit Val ℕ (Pipeline.UD sig nD τ) ℕ

/-- A transfer from `a` to `b` in flight on the semaphore `sm`, where `a` reads as `X`: the wait for it gives back both ends. -/
def Flying (c : Dev nD) {sp sp' : Space} (sm : DmaSem sig) (a : Memref sig .tc sp s e) (b : Memref sig .tc sp' s e) (X : s.Idx → Val e) : sProp 𝕄 :=
  iprop(∃ fa : Buf Val (a.view.loc (c : Thread nD τ)), ∃ fb : Buf Val (b.view.loc (c : Thread nD τ)), ⌜a.view.read Val fa = X⌝
    ∗ Transfers.Flight countersEmb (c : Thread nD τ) (.dma sm) () b.view.dmaCredit
        iprop((b.view.loc (c : Thread nD τ) ↦[b.view.set]{fullShare} b.view.write Val fb (ReadAs.same.apply (a.view.read Val fa)) Finset.univ)
          ∗ (a.view.loc (c : Thread nD τ) ↦[a.view.set]{fullShare} fa)))

/-- A memref held whole at some contents. -/
def Some (c : Dev nD) {sp : Space} (a : Memref sig .tc sp s e) : sProp 𝕄 := iprop(∃ Y, owns (c : Thread nD τ) a fullShare Y)

/-- What is held for a chunk in each phase; `X` is what its source reads as. -/
def Bufs.held (B : Bufs nD τ sig s e n k) (c : Dev nD) (X : Fin n → s.Idx → Val e) (i : Fin n) : Phase → sProp 𝕄
  | .idle => iprop(owns (c : Thread nD τ) (B.src i) fullShare (X i) ∗ Some c (B.dst i))
  | .loading => iprop(Flying c (B.loadSem (B.turn i)) (B.src i) (B.slot (B.turn i)) (X i) ∗ semVal ((c : Thread nD τ), .dma (B.storeSem (B.turn i))) 0
      ∗ Some c (B.dst i))
  | .loaded => iprop(owns (c : Thread nD τ) (B.src i) fullShare (X i) ∗ owns (c : Thread nD τ) (B.slot (B.turn i)) fullShare (X i)
      ∗ semVal ((c : Thread nD τ), .dma (B.loadSem (B.turn i))) 0 ∗ semVal ((c : Thread nD τ), .dma (B.storeSem (B.turn i))) 0
      ∗ Some c (B.dst i))
  | .storing => iprop(owns (c : Thread nD τ) (B.src i) fullShare (X i) ∗ semVal ((c : Thread nD τ), .dma (B.loadSem (B.turn i))) 0
      ∗ Flying c (B.storeSem (B.turn i)) (B.slot (B.turn i)) (B.dst i) (X i))
  | .done => iprop(owns (c : Thread nD τ) (B.src i) fullShare (X i) ∗ owns (c : Thread nD τ) (B.dst i) fullShare (X i))

/-- What is held for a slot: if it is free, the slot at some contents and its two semaphores at zero; otherwise nothing. -/
def Bufs.heldSlot (B : Bufs nD τ sig s e n k) (c : Dev nD) (j : Fin k) : Bool → sProp 𝕄
  | true => iprop(Some c (B.slot j) ∗ semVal ((c : Thread nD τ), .dma (B.loadSem j)) 0 ∗ semVal ((c : Thread nD τ), .dma (B.storeSem j)) 0)
  | false => iprop(emp)

/-- What is held in a state. -/
def Bufs.inv (B : Bufs nD τ sig s e n k) (c : Dev nD) (X : Fin n → s.Idx → Val e) (st : St n k) : sProp 𝕄 :=
  iprop((bigSep Finset.univ fun i => B.held c X i (st.chunk i)) ∗ (bigSep Finset.univ fun j => B.heldSlot c j (st.free j))
    ∗ ∃ W, owes (c : Thread nD τ) 0 W)

/-! ## The two steps -/

variable {defs : Defs nD τ sig Val Λ} (𝒱 : Variants) (c : Dev nD)

/-- Issuing a transfer from a source that reads as `X`: it is in flight. -/
theorem issue {sp sp' : Space} {sm : DmaSem sig} {a : Memref sig .tc sp s e} {b : Memref sig .tc sp' s e} (hs : 0 < s.numel)
    {ha : a.view.WordExact} {hb : b.view.WordExact} {ht : (DmaTarget.here b : DmaTarget nD τ sig .tc sp' s e).Typed sp (.dma sm)}
    {X : s.Idx → Val e} {kk : PUnit → Prog (TpuEff nD τ sig Val Λ .tc) PUnit} {Q : PUnit → sProp 𝕄} :
    iprop(owns (c : Thread nD τ) a fullShare X ∗ Some c b ∗ semVal ((c : Thread nD τ), .dma sm) 0)
      ⊢ iprop((Flying c sm a b X -∗ wp frame (wpE defs 𝒱 c none) Set.univ (kk ⟨⟩) Q)
          -∗ wp frame (wpE defs 𝒱 c none) Set.univ (.op (.enqueueDma a (.here b) (.dma sm) ha hb ht) kk) Q) := by
  unfold Some owns
  iintro ⟨⟨%fa, %hfa, Ha⟩, ⟨%Y, %fb, -, Hb⟩, Hv⟩ Hk
  iapply (Transfers.wp_dmaLocal countersEmb 𝒱 (c : Thread nD τ) none () b.view.dmaCredit (q := fullShare) (fs := fa) (fd := fb) (Sd := b.view.set)
    rfl (View.amount_pos b.view (.dma sm) hs) (Finset.Subset.refl _)) $$ [Ha Hb Hv]
  · isplitl [Ha]; · iexact Ha
    isplitl [Hb]; · iexact Hb
    iexact Hv
  iintro HF
  iapply Hk
  unfold Flying
  iexists fa, fb
  isplitr; · ipureintro; exact hfa
  iexact HF

/-- Waiting for a transfer: both ends are held again, the destination reading as the source does. -/
theorem await {sp sp' : Space} {sm : DmaSem sig} {a : Memref sig .tc sp s e} {b : Memref sig .tc sp' s e}
    {ha : a.view.WordExact} {hb : b.view.WordExact}
    {X : s.Idx → Val e} {kk : PUnit → Prog (TpuEff nD τ sig Val Λ .tc) PUnit} {Q : PUnit → sProp 𝕄} :
    iprop(Flying c sm a b X ∗ ∃ W, owes (c : Thread nD τ) 0 W)
      ⊢ iprop((iprop(owns (c : Thread nD τ) a fullShare X ∗ owns (c : Thread nD τ) b fullShare X ∗ semVal ((c : Thread nD τ), .dma sm) 0
            ∗ ∃ W, owes (c : Thread nD τ) 0 W) -∗ wp frame (wpE defs 𝒱 c none) Set.univ (kk ⟨⟩) Q)
          -∗ wp frame (wpE defs 𝒱 c none) Set.univ (.op (.waitDma2 sm a b ha hb) kk) Q) := by
  unfold Flying owns
  iintro ⟨⟨%fa, %fb, %hfa, HF⟩, ⟨%W, HO⟩⟩ Hk
  iapply (Transfers.wp_waitLocal countersEmb 𝒱 (c : Thread nD τ) none () rfl) $$ [HF HO]
  · isplitl [HF]; · iexact HF
    iexact HO
  iintro ⟨⟨Hb, Ha⟩, Hv, HO⟩
  iapply Hk
  isplitl [Ha]
  · iexists fa; isplitr; · ipureintro; exact hfa
    iexact Ha
  isplitl [Hb]
  · iexists _; isplitr
    swap; · iexact Hb
    ipureintro
    rw [View.read_write_univ]; exact hfa
  isplitl [Hv]; · iexact Hv
  iexists _; iexact HO

end Cert.CopyRing

end
-- ==== Proof.RingRun.lean ====
/-
  The run of a copy through a ring (Ring.lean): each operation takes the resources of one state to those of the next, so a list of
  operations that `exec` accepts takes the resources of its first state to those of its last.
-/
module

public import proofs.«01_k».proof.Proof.Ring

@[expose] public section

noncomputable section

namespace Cert.CopyRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {n k : ℕ} {nD : ℕ} {τ : Topo} {sig : RefSig} {Val : EltTy → Type} {Λ : Labels} {s : Shape} {e : EltTy}

local notation "𝕄" => MT nD τ sig Unit Val ℕ (Pipeline.UD sig nD τ) ℕ

variable {defs : Defs nD τ sig Val Λ} (𝒱 : Variants) (c : Dev nD) (B : Bufs nD τ sig s e n k) (X : Fin n → s.Idx → Val e)

/-- The resources of a state with chunk `i` taken out: what is held for it now, and the rest for any phase it may go to. -/
theorem chunk_turn (f : Fin n → Phase) (i : Fin n) :
    (bigSep Finset.univ fun j => (B.held c X j (f j) : sProp 𝕄))
      ⊢ iprop(B.held c X i (f i) ∗ ∀ p, B.held c X i p -∗ bigSep Finset.univ fun j => B.held c X j (Function.update f i p j)) :=
  bigSep_univ_turn (fun j p => (B.held c X j p : sProp 𝕄)) f i

/-- The same for a slot. -/
theorem slot_turn (f : Fin k → Bool) (j : Fin k) :
    (bigSep Finset.univ fun l => (B.heldSlot c l (f l) : sProp 𝕄))
      ⊢ iprop(B.heldSlot c j (f j) ∗ ∀ p, B.heldSlot c j p -∗ bigSep Finset.univ fun l => B.heldSlot c l (Function.update f j p l)) :=
  bigSep_univ_turn (fun l p => (B.heldSlot c l p : sProp 𝕄)) f j

/-- One operation in turn: it runs, and what is held goes from its state to the next. -/
theorem op_step {st st' : St n k} {o : Op n} (h : step B.turn st o = some st')
    {kk : PUnit → Prog (TpuEff nD τ sig Val Λ .tc) PUnit} {Q : PUnit → sProp 𝕄} :
    (B.inv c X st : sProp 𝕄) ⊢ iprop((B.inv c X st' -∗ wp frame (wpE defs 𝒱 c none) Set.univ (kk ⟨⟩) Q)
      -∗ wp frame (wpE defs 𝒱 c none) Set.univ (.op (B.eff o) kk) Q) := by
  cases o with
  | load i =>
    obtain ⟨⟨hp, hf⟩, rfl⟩ : (st.chunk i = .idle ∧ st.free (B.turn i) = true) ∧ _ := by
      simpa [step] using h
    unfold Bufs.inv Bufs.eff
    iintro ⟨HC, HS, HO⟩ Hk
    ihave HC := chunk_turn c B X st.chunk i $$ HC
    ihave HS := slot_turn c B st.free (B.turn i) $$ HS
    rw [hp, hf, Bufs.held, Bufs.heldSlot]
    icases HC with ⟨⟨Ha, Hd⟩, HC⟩
    icases HS with ⟨⟨Hb, Hl, Ht⟩, HS⟩
    iapply (issue 𝒱 c B.nonempty (X := X i)) $$ [Ha Hb Hl]
    · isplitl [Ha]; · iexact Ha
      isplitl [Hb]; · iexact Hb
      iexact Hl
    iintro HF
    iapply Hk
    isplitl [HC HF Ht Hd]
    · iapply HC $$ %Phase.loading
      rw [Bufs.held]
      isplitl [HF]; · iexact HF
      isplitl [Ht]; · iexact Ht
      iexact Hd
    isplitl [HS]
    · iapply HS $$ %false
      rw [Bufs.heldSlot]
      iempintro
    iexact HO
  | waitLoad i =>
    obtain ⟨hp, rfl⟩ : st.chunk i = .loading ∧ _ := by simpa [step] using h
    unfold Bufs.inv Bufs.eff
    iintro ⟨HC, HS, HO⟩ Hk
    ihave HC := chunk_turn c B X st.chunk i $$ HC
    rw [hp, Bufs.held]
    icases HC with ⟨⟨HF, Ht, Hd⟩, HC⟩
    iapply (await 𝒱 c (X := X i)) $$ [HF HO]
    · isplitl [HF]; · iexact HF
      iexact HO
    iintro ⟨Ha, Hb, Hl, HO⟩
    iapply Hk
    isplitl [HC Ha Hb Hl Ht Hd]
    · iapply HC $$ %Phase.loaded
      rw [Bufs.held]
      isplitl [Ha]; · iexact Ha
      isplitl [Hb]; · iexact Hb
      isplitl [Hl]; · iexact Hl
      isplitl [Ht]; · iexact Ht
      iexact Hd
    isplitl [HS]; · iexact HS
    iexact HO
  | store i =>
    obtain ⟨hp, rfl⟩ : st.chunk i = .loaded ∧ _ := by simpa [step] using h
    unfold Bufs.inv Bufs.eff
    iintro ⟨HC, HS, HO⟩ Hk
    ihave HC := chunk_turn c B X st.chunk i $$ HC
    rw [hp, Bufs.held]
    icases HC with ⟨⟨Ha, Hb, Hl, Ht, Hd⟩, HC⟩
    iapply (issue 𝒱 c B.nonempty (X := X i)) $$ [Hb Hd Ht]
    · isplitl [Hb]; · iexact Hb
      isplitl [Hd]; · iexact Hd
      iexact Ht
    iintro HF
    iapply Hk
    isplitl [HC HF Ha Hl]
    · iapply HC $$ %Phase.storing
      rw [Bufs.held]
      isplitl [Ha]; · iexact Ha
      isplitl [Hl]; · iexact Hl
      iexact HF
    isplitl [HS]; · iexact HS
    iexact HO
  | waitStore i =>
    obtain ⟨⟨hp, hf⟩, rfl⟩ : (st.chunk i = .storing ∧ st.free (B.turn i) = false) ∧ _ := by
      simpa [step] using h
    unfold Bufs.inv Bufs.eff
    iintro ⟨HC, HS, HO⟩ Hk
    ihave HC := chunk_turn c B X st.chunk i $$ HC
    ihave HS := slot_turn c B st.free (B.turn i) $$ HS
    rw [hp, hf, Bufs.held, Bufs.heldSlot]
    icases HC with ⟨⟨Ha, Hl, HF⟩, HC⟩
    icases HS with ⟨-, HS⟩
    iapply (await 𝒱 c (X := X i)) $$ [HF HO]
    · isplitl [HF]; · iexact HF
      iexact HO
    iintro ⟨Hb, Hd, Ht, HO⟩
    iapply Hk
    isplitl [HC Ha Hd]
    · iapply HC $$ %Phase.done
      rw [Bufs.held]
      isplitl [Ha]; · iexact Ha
      iexact Hd
    isplitl [HS Hb Hl Ht]
    · iapply HS $$ %true
      rw [Bufs.heldSlot]
      isplitl [Hb]
      · unfold Some; iexists _; iexact Hb
      isplitl [Hl]; · iexact Hl
      iexact Ht
    iexact HO

/-- A list of operations in turn: it runs, and what is held goes from its first state to its last. -/
theorem run {ops : List (Op n)} {st st' : St n k} (h : exec B.turn ops st = some st') {Q : PUnit → sProp 𝕄} :
    iprop(B.inv c X st ∗ (B.inv c X st' -∗ Q ⟨⟩))
      ⊢ wp frame (wpE defs 𝒱 c none) Set.univ (B.prog ops) Q := by
  induction ops generalizing st with
  | nil =>
    obtain rfl : st = st' := by simpa [exec] using h
    unfold Bufs.prog
    iintro ⟨HI, Hk⟩
    sl_step
    iapply Hk
    iexact HI
  | cons o os ih =>
    obtain ⟨st₁, h₁, h₂⟩ := Option.bind_eq_some_iff.mp h
    unfold Bufs.prog
    iintro ⟨HI, Hk⟩
    iapply (op_step 𝒱 c B X h₁) $$ HI
    iintro HI
    iapply (ih h₂)
    isplitl [HI]; · iexact HI
    iexact Hk

end Cert.CopyRing

end
-- ==== Proof.Schedule.lean ====
/-
  The kernel's schedule: sixteen loads ahead, and for every chunk, in order, the load sixteen chunks on (after the wait for the
  store that last used its slot, if there was one), the wait for the chunk's own load and the start of its store; at the end the
  waits for the stores not waited for yet. The 55 chunks go through 32 slots.
-/
module

public import proofs.«01_k».proof.Proof.Ring

@[expose] public section

namespace Cert.CopyRing

/-- The slot a chunk goes through. -/
def slotOf (i : Fin 55) : Fin 32 := ⟨i.1 % 32, Nat.mod_lt _ (by decide)⟩

/-- The operations at chunk `i`'s turn. -/
def turnOps (i : ℕ) (hi : i < 55) : List (Op 55) :=
  if h : i + 16 < 55 then
    if 16 ≤ i then [.waitStore ⟨i - 16, Nat.lt_of_le_of_lt (Nat.sub_le _ _) hi⟩, .load ⟨i + 16, h⟩, .waitLoad ⟨i, hi⟩, .store ⟨i, hi⟩]
    else [.load ⟨i + 16, h⟩, .waitLoad ⟨i, hi⟩, .store ⟨i, hi⟩]
  else [.waitLoad ⟨i, hi⟩, .store ⟨i, hi⟩]

/-- The kernel's operations, in its order. -/
def schedule : List (Op 55) :=
  ((List.finRange 16).map fun i => .load ⟨i.1, Nat.lt_trans i.2 (by decide)⟩)
    ++ (List.finRange 55).flatMap (fun i => turnOps i.1 i.2)
    ++ ((List.finRange 32).map fun i => .waitStore ⟨23 + i.1, Nat.add_lt_add_left i.2 23⟩)

/-- The schedule takes every operation in turn, and at its end every chunk is copied and every slot free. -/
theorem exec_schedule : exec slotOf schedule St.start = some St.finish := by
  have h : ∀ o : Option (St 55 32), (o.elim false fun st => decide ((∀ i, st.chunk i = .done) ∧ ∀ j, st.free j = true)) = true → o = some St.finish := by
    rintro (_ | ⟨f, g⟩) h
    · simp at h
    · simp only [Option.elim_some, decide_eq_true_eq] at h
      obtain ⟨hf, hg⟩ := h
      rw [show f = fun _ => Phase.done from funext hf, show g = fun _ => true from funext hg]; rfl
  exact h _ (by decide +kernel)

end Cert.CopyRing
-- ==== Proof.Slabs.lean ====
/-
  The kernel's buffers as chunks: an array of `n` chunks of 3125 × 64 words is held whole exactly when each of its chunks is held,
  and the copy of 55 chunks through 32 slots, run by the schedule, takes the source, the destination and the slots held whole to
  the same with the destination reading as the source.
-/
module

public import proofs.«01_k».proof.Proof.RingRun
public import proofs.«01_k».proof.Proof.Schedule

@[expose] public section

noncomputable section

namespace Cert.CopyRing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `n` chunks. -/
abbrev Slabs (n : ℕ) : Shape := ⟨3, ![n, 3125, 64]⟩
/-- The 32 semaphores, one of them, and one as a scalar. -/
abbrev Cells : Shape := ⟨1, ![32]⟩
abbrev OneCell : Shape := ⟨1, ![1]⟩
abbrev ScalarCell : Shape := ⟨0, ![]⟩

/-- Chunk `i` lies inside an array of `n` of them. -/
theorem slab_inb {n : ℕ} (i : Fin n) : ∀ a, (![i.1, 0, 0] : Fin 3 → ℕ) a + (Slabs 1).size a ≤ (Slabs n).size a
  | 0 => i.2
  | 1 => Nat.le_refl _
  | 2 => Nat.le_refl _

/-- Semaphore `j` is one of the 32. -/
theorem cell_inb (j : Fin 32) : ∀ a, (![j.1] : Fin 1 → ℕ) a + OneCell.size a ≤ Cells.size a
  | 0 => j.2

/-- The rectangle of chunk `i`. -/
abbrev slabRect {n : ℕ} (i : Fin n) : Rect (Slabs n) := Rect.unit (s := Slabs n) ![i.1, 0, 0] (Slabs 1).size (slab_inb i)

variable {nD : ℕ} {τ : Topo} {sig : RefSig} {Val : EltTy → Type} {Λ : Labels}

/-- Chunk `i` of an array of `n`. -/
abbrev slab {n : ℕ} {sp : Space} (M : Memref sig .tc sp (Slabs n) .f32) (i : Fin n) : Memref sig .tc sp (Slabs 1) .f32 :=
  M.slice (slabRect i) (fun _ => rfl)

/-- Semaphore `j` of an array of 32. -/
abbrev cell (hq : OneCell.Squeezes ScalarCell) (A : DmaSems sig Cells) (j : Fin 32) : DmaSem sig :=
  ((A.slice (Rect.unit (s := Cells) ![j.1] OneCell.size (cell_inb j))).squeeze ScalarCell hq).sem

/-- The kernel's buffers: chunk `i` of the source and of the destination, slot `j` of the ring, and the two semaphores of slot `j`. -/
def bufs (hq : OneCell.Squeezes ScalarCell) (a0 a1 : Memref sig .tc .hbm (Slabs 55) .f32) (a2 : Memref sig .tc .vmem (Slabs 32) .f32)
    (a3 a4 : DmaSems sig Cells) : Bufs nD τ sig (Slabs 1) .f32 55 32 where
  src := slab a0
  dst := slab a1
  slot := slab a2
  loadSem := cell hq a3
  storeSem := cell hq a4
  turn := slotOf
  srcExact _ := View.wordExact_bits rfl
  dstExact _ := View.wordExact_bits rfl
  slotExact _ := View.wordExact_bits rfl
  loadTyped _ := ⟨Or.inl rfl, trivial⟩
  storeTyped _ := ⟨Or.inl rfl, trivial⟩
  nonempty := by decide

/-- Two chunks share no element. -/
theorem slab_disjoint {n : ℕ} (i i' : Fin n) (h : i ≠ i') : Disjoint (slabRect i).set (slabRect i').set :=
  Rect.unit_disjoint (0 : Fin 3) (by
    have : i.1 ≠ i'.1 := fun e => h (Fin.ext e)
    show i.1 + 1 ≤ i'.1 ∨ i'.1 + 1 ≤ i.1
    omega)

/-- The chunks cover the array. -/
theorem slab_cover (n : ℕ) : (Finset.univ : Finset (Fin n)).biUnion (fun i => (slabRect i).set) = Finset.univ := by
  ext x
  simp only [Finset.mem_biUnion, Finset.mem_univ, true_and, iff_true]
  refine ⟨⟨(x 0).1, (x 0).2⟩, Rect.mem_set_unit.mpr fun a => ?_⟩
  fin_cases a
  · exact ⟨Nat.le_refl _, Nat.lt_succ_self _⟩
  · exact ⟨Nat.zero_le _, by simpa using (x 1).2⟩
  · exact ⟨Nat.zero_le _, by simpa using (x 2).2⟩

local notation "𝕄" => MT nD τ sig Unit Val ℕ (Pipeline.UD sig nD τ) ℕ

variable (c : Dev nD)

/-- Two families held at once, apart and together. -/
theorem apart {I : Type} (S : Finset I) (Φ Ψ : I → sProp 𝕄) : bigSep S (fun i => iprop(Φ i ∗ Ψ i)) ⊢ (iprop(bigSep S Φ ∗ bigSep S Ψ) : sProp 𝕄) :=
  Entails.of_eq (bigSep_sep' S Φ Ψ)
theorem together {I : Type} (S : Finset I) (Φ Ψ : I → sProp 𝕄) : iprop(bigSep S Φ ∗ bigSep S Ψ) ⊢ (bigSep S (fun i => iprop(Φ i ∗ Ψ i)) : sProp 𝕄) :=
  Entails.of_eq (bigSep_sep' S Φ Ψ).symm

/-- An array held whole is each of its chunks held at its part. -/
theorem owns_split {n : ℕ} {sp : Space} (M : Memref sig .tc sp (Slabs n) .f32) (X : (Slabs n).Idx → Val .f32) :
    (owns (c : Thread nD τ) M fullShare X : sProp 𝕄)
      ⊢ bigSep Finset.univ fun i => owns (c : Thread nD τ) (slab M i) fullShare (fun j => X ((slabRect i).emb j)) :=
  owns_rects (c : Thread nD τ) M fullShare slabRect (fun _ _ => rfl) slab_disjoint (slab_cover n) X

/-- And back. -/
theorem owns_join [∀ e, Nonempty (Val e)] {n : ℕ} {sp : Space} (M : Memref sig .tc sp (Slabs n) .f32) (X : (Slabs n).Idx → Val .f32) :
    (bigSep Finset.univ fun i => owns (c : Thread nD τ) (slab M i) fullShare (fun j => X ((slabRect i).emb j)))
      ⊢ (owns (c : Thread nD τ) M fullShare X : sProp 𝕄) :=
  owns_of_rects (c : Thread nD τ) M fullShare slabRect (fun _ _ => rfl) slab_disjoint (slab_cover n) X

/-- An array held whole at some contents is each of its chunks held at some contents. -/
theorem some_split {n : ℕ} {sp : Space} (M : Memref sig .tc sp (Slabs n) .f32) :
    (Some c M : sProp 𝕄) ⊢ bigSep Finset.univ fun i => Some c (slab M i) := by
  have one (Y : (Slabs n).Idx → Val .f32) (i : Fin n) : (owns (c : Thread nD τ) (slab M i) fullShare (fun j => Y ((slabRect i).emb j)) : sProp 𝕄) ⊢ Some c (slab M i) := by
    unfold Some
    iintro H
    iexists _
    iexact H
  have each (Y : (Slabs n).Idx → Val .f32) : (bigSep Finset.univ fun i => owns (c : Thread nD τ) (slab M i) fullShare (fun j => Y ((slabRect i).emb j)))
      ⊢ (bigSep Finset.univ fun i => Some c (slab M i) : sProp 𝕄) := bigSep_mono fun i _ => one Y i
  iintro H
  unfold Some at *
  icases H with ⟨%Y, H⟩
  iapply (each Y)
  iapply (owns_split c M Y)
  iexact H

/-- The contents of an array put together from contents of its chunks. -/
def glue {n : ℕ} {α : Type} (Y : Fin n → (Slabs 1).Idx → α) : (Slabs n).Idx → α := fun x =>
  Y ⟨(x 0).1, (x 0).2⟩ fun | 0 => ⟨0, Nat.one_pos⟩ | 1 => x 1 | 2 => x 2

/-- Chunk `i` of contents put together is the contents given for it. -/
theorem glue_emb {n : ℕ} {α : Type} (Y : Fin n → (Slabs 1).Idx → α) (i : Fin n) (j : (Slabs 1).Idx) : glue Y ((slabRect i).emb j) = Y i j := by
  unfold glue
  have h0 : (j 0).1 = 0 := Nat.lt_one_iff.mp (j 0).2
  congr 1
  · apply Fin.ext
    show i.1 + 1 * (j 0).1 = i.1
    omega
  · funext a
    apply Fin.ext
    fin_cases a
    · exact h0.symm
    · show 0 + 1 * (j 1).1 = (j 1).1
      omega
    · show 0 + 1 * (j 2).1 = (j 2).1
      omega

/-- An array each of whose chunks is held at some contents is held whole at some contents. -/
theorem some_join [∀ e, Nonempty (Val e)] {n : ℕ} {sp : Space} (M : Memref sig .tc sp (Slabs n) .f32) :
    (bigSep Finset.univ fun i => Some c (slab M i)) ⊢ (Some c M : sProp 𝕄) := by
  have join (Y : Fin n → (Slabs 1).Idx → Val .f32) : (bigSep Finset.univ fun i => owns (c : Thread nD τ) (slab M i) fullShare (Y i))
      ⊢ (owns (c : Thread nD τ) M fullShare (glue Y) : sProp 𝕄) := by
    have h := owns_join (τ := τ) c M (glue Y)
    simp only [glue_emb] at h
    exact h
  unfold Some
  iintro H
  ihave H := bigSep_exists_pi Finset.univ (P := fun i Y => (owns (c : Thread nD τ) (slab M i) fullShare Y : sProp 𝕄)) $$ H
  icases H with ⟨%Y, H⟩
  iexists (glue Y)
  iapply (join Y)
  iexact H

/-! ## The copy -/

variable {defs : Defs nD τ sig Val Λ} (𝒱 : Variants) (hq : OneCell.Squeezes ScalarCell)
  (a0 a1 : Memref sig .tc .hbm (Slabs 55) .f32) (a2 : Memref sig .tc .vmem (Slabs 32) .f32) (a3 a4 : DmaSems sig Cells)

/-- The 32 semaphores of an array, all at zero. -/
def zeros (A : DmaSems sig Cells) : sProp 𝕄 := bigSep Finset.univ fun j => semVal ((c : Thread nD τ), .dma (cell hq A j)) 0

/-- The copy: from the source reading as `X`, the destination and the slots at anything, all semaphores at zero and nothing owed,
    the schedule's program runs, and ends with the source as it was, the destination reading as `X` too, the slots at anything and
    all semaphores at zero again. -/
theorem copies [∀ e, Nonempty (Val e)] (X : (Slabs 55).Idx → Val .f32) {Q : PUnit → sProp 𝕄} :
    iprop(owns (c : Thread nD τ) a0 fullShare X ∗ Some c a1 ∗ Some c a2 ∗ zeros c hq a3 ∗ zeros c hq a4 ∗ (∃ W, owes (c : Thread nD τ) 0 W)
        ∗ (iprop(owns (c : Thread nD τ) a0 fullShare X ∗ owns (c : Thread nD τ) a1 fullShare X ∗ Some c a2 ∗ zeros c hq a3 ∗ zeros c hq a4
            ∗ ∃ W, owes (c : Thread nD τ) 0 W) -∗ Q ⟨⟩))
      ⊢ wp frame (wpE defs 𝒱 c none) Set.univ ((bufs hq a0 a1 a2 a3 a4 : Bufs nD τ sig (Slabs 1) .f32 55 32).prog schedule) Q := by
  have hbegin : (iprop(owns (c : Thread nD τ) a0 fullShare X ∗ Some c a1 ∗ Some c a2 ∗ zeros c hq a3 ∗ zeros c hq a4 ∗ ∃ W, owes (c : Thread nD τ) 0 W) : sProp 𝕄)
      ⊢ (bufs hq a0 a1 a2 a3 a4).inv c (fun i j => X ((slabRect i).emb j)) St.start := by
    have hc : (iprop((bigSep Finset.univ fun i => owns (c : Thread nD τ) (slab a0 i) fullShare (fun j => X ((slabRect i).emb j)))
            ∗ bigSep Finset.univ fun i => Some c (slab a1 i)) : sProp 𝕄)
        ⊢ (bigSep Finset.univ fun i => (bufs hq a0 a1 a2 a3 a4).held c (fun i j => X ((slabRect i).emb j)) i (St.start (n := 55) (k := 32) |>.chunk i)) :=
      together _ _ _
    have hs : (iprop((bigSep Finset.univ fun j => Some c (slab a2 j))
            ∗ bigSep Finset.univ fun j => iprop(semVal ((c : Thread nD τ), .dma (cell hq a3 j)) 0 ∗ semVal ((c : Thread nD τ), .dma (cell hq a4 j)) 0)) : sProp 𝕄)
        ⊢ (bigSep Finset.univ fun j => (bufs hq a0 a1 a2 a3 a4).heldSlot c j (St.start (n := 55) (k := 32) |>.free j)) :=
      together _ _ _
    unfold Bufs.inv zeros
    iintro ⟨H0, H1, H2, H3, H4, HO⟩
    isplitl [H0 H1]
    · iapply hc
      isplitl [H0]
      · iapply (owns_split c a0 X); iexact H0
      · iapply (some_split c a1); iexact H1
    isplitl [H2 H3 H4]
    · iapply hs
      isplitl [H2]
      · iapply (some_split c a2); iexact H2
      iapply (together Finset.univ)
      isplitl [H3]; · iexact H3
      iexact H4
    iexact HO
  have hend : (bufs hq a0 a1 a2 a3 a4).inv c (fun i j => X ((slabRect i).emb j)) St.finish
      ⊢ (iprop(owns (c : Thread nD τ) a0 fullShare X ∗ owns (c : Thread nD τ) a1 fullShare X ∗ Some c a2 ∗ zeros c hq a3 ∗ zeros c hq a4 ∗ ∃ W, owes (c : Thread nD τ) 0 W) : sProp 𝕄) := by
    have hc : (bigSep Finset.univ fun i => (bufs hq a0 a1 a2 a3 a4).held c (fun i j => X ((slabRect i).emb j)) i (St.finish (n := 55) (k := 32) |>.chunk i))
        ⊢ (iprop((bigSep Finset.univ fun i => owns (c : Thread nD τ) (slab a0 i) fullShare (fun j => X ((slabRect i).emb j)))
            ∗ bigSep Finset.univ fun i => owns (c : Thread nD τ) (slab a1 i) fullShare (fun j => X ((slabRect i).emb j))) : sProp 𝕄) :=
      apart _ _ _
    have hs : (bigSep Finset.univ fun j => (bufs hq a0 a1 a2 a3 a4).heldSlot c j (St.finish (n := 55) (k := 32) |>.free j))
        ⊢ (iprop((bigSep Finset.univ fun j => Some c (slab a2 j))
            ∗ bigSep Finset.univ fun j => iprop(semVal ((c : Thread nD τ), .dma (cell hq a3 j)) 0 ∗ semVal ((c : Thread nD τ), .dma (cell hq a4 j)) 0)) : sProp 𝕄) :=
      apart _ _ _
    unfold Bufs.inv zeros
    iintro ⟨HC, HS, HO⟩
    ihave HC := hc $$ HC
    ihave HS := hs $$ HS
    icases HC with ⟨H0, H1⟩
    icases HS with ⟨H2, H34⟩
    ihave H34 := apart Finset.univ $$ H34
    icases H34 with ⟨H3, H4⟩
    isplitl [H0]; · iapply (owns_join c a0 X); iexact H0
    isplitl [H1]; · iapply (owns_join c a1 X); iexact H1
    isplitl [H2]; · iapply (some_join c a2); iexact H2
    isplitl [H3]; · iexact H3
    isplitl [H4]; · iexact H4
    iexact HO
  iintro ⟨H0, H1, H2, H3, H4, HO, Hk⟩
  iapply (run 𝒱 c (bufs hq a0 a1 a2 a3 a4) (fun i j => X ((slabRect i).emb j)) exec_schedule)
  isplitl [H0 H1 H2 H3 H4 HO]
  · iapply hbegin
    isplitl [H0]; · iexact H0
    isplitl [H1]; · iexact H1
    isplitl [H2]; · iexact H2
    isplitl [H3]; · iexact H3
    isplitl [H4]; · iexact H4
    iexact HO
  iintro HI
  iapply Hk
  iapply hend
  iexact HI

end Cert.CopyRing

end
-- ==== Proof.Kernel.Run.lean ====
/-
  `Kernel`'s run: its body is the schedule's program over the two arrays, the ring and the two semaphore arrays, so `copies`
  (Slabs.lean) takes it from the arrays as the region finds them to the destination reading as the source; @main reshapes the flat
  argument into the source before the region and the destination into the flat result after it, so the result is the argument.
-/
module

public import proofs.«01_k».proof.Proof.Gen.Kernel.Frame
public import proofs.«01_k».proof.Proof.Slabs
public import Idealize.ShloMosaic.Lib.Pipeline.FrameBody
public import Idealize.ShloMosaic.Lib.Pipeline.FrameSuffixV
public import Idealize.ShloMosaic.Lib.Pointwise.Reshape

@[expose] public section

noncomputable section

namespace Cert.Kernel.Hand

open Cert.Kernel Cert.Kernel.Gen Cert.CopyRing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The body -/

/-- The buffers the body copies between, at the operands it is called with. -/
abbrev ring : Bufs nD τ sig (Slabs 1) .f32 55 32 :=
  bufs Facts₀.squeezes_S1_S_ (Memref.whole main_v0) (Memref.whole main_v1) (Memref.whole cc0_scratch0) cc0_scratch1 cc0_scratch2

set_option maxRecDepth 65536 in
/-- The printed body is the schedule's program. -/
theorem body_eq (t : Fin cfg0.N) : bodyAt0 (F := F) t = ring.prog schedule := rfl

/-! ## The semaphores and the arrays the body holds -/

/-- The kernel's own semaphores: the load semaphores and the store semaphores. -/
abbrev osem0 : Fin 32 ⊕ Fin 32 → SemLoc sig :=
  Sum.elim (fun j => .dma (cell Facts₀.squeezes_S1_S_ cc0_scratch1 j)) (fun j => .dma (cell Facts₀.squeezes_S1_S_ cc0_scratch2 j))
theorem ownSemFacts0 : Pipeline.OwnSemFacts cfg0.spec osem0 := by decide +kernel
/-- The kernel's own semaphores at zero are the two arrays' at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(zeros c Facts₀.squeezes_S1_S_ cc0_scratch1 ∗ zeros c Facts₀.squeezes_S1_S_ cc0_scratch2) := by
  unfold Pipeline.ownSems0 zeros
  exact bigSep_univ_sum _

/-- The array the body reads, and the array it writes. -/
def H0 : Finset (Ref sig .tc) := {main_v0}
def R0 : Finset (Ref sig .tc) := {main_v1}
theorem H0_sub : H0 ⊆ Pipeline.restRefs sig cfg0.spec := by decide
theorem R0_sub : R0 ⊆ Pipeline.restRefs sig cfg0.spec \ H0 := by decide

/-- What the region leaves in the buffers: the destination as the source was. -/
def G (c : Dev nD) (b : Ref sig .tc) : Buf (Elt F) ((c.tc : Thread nD τ).loc b) :=
  if h : b = main_v1 then h ▸ (V m c main_v0 : Buf (Elt F) ((c.tc : Thread nD τ).loc main_v1)) else V m c b
theorem G_v1 (c : Dev nD) : G m c main_v1 = V m c main_v0 := by unfold G; rw [dif_pos rfl]

/-- What is held with the written array at `g`: the ring at some contents, the semaphores at zero, the source at its contents and
    the destination at `g`. -/
theorem PhiDRV0_eq (g : (c : Dev nD) → (b : Ref sig .tc) → Buf (Elt F) ((c.tc : Thread nD τ).loc b)) (c : Dev nD) :
    (Pipeline.ΦDRV osem0 cfg0.spec H0 R0 (V m) g c : sProp 𝕄)
      = iprop(Some c (Memref.whole cc0_scratch0) ∗ iprop(zeros c Facts₀.squeezes_S1_S_ cc0_scratch1 ∗ zeros c Facts₀.squeezes_S1_S_ cc0_scratch2)
          ∗ owns (c : Thread nD τ) (Memref.whole main_v0) fullShare (V m c main_v0)
          ∗ owns (c : Thread nD τ) (Memref.whole main_v1) fullShare (g c main_v1)) := by
  unfold Pipeline.ΦDRV Some H0 R0
  rw [scopedRest0_eq, ownSems00_eq, bigSep_singleton, bigSep_singleton]
  simp only [owns_whole]

/-! ## The proof data and the body obligation -/

/-- The proof data on core `c`: no window; before the point the destination as the region finds it, after it as the body leaves it;
    nothing owed. -/
def dats (_ : Fin 1) (c : Dev nD) : Dat τ (Elt F) Unit ℕ (Pipeline.UD sig nD τ) ℕ cfg0 c where
  A w := w.elim0
  after w t := w.elim0
  Φ t := if t.1 = 0 then Pipeline.ΦDRV osem0 cfg0.spec H0 R0 (V m) (V m) c else Pipeline.ΦDRV osem0 cfg0.spec H0 R0 (V m) (G m) c
  q _ := fullShare
  owed _ := 0

theorem Phi_castSucc (c : Dev nD) (t : Fin cfg0.N) : (dats m 0 c).Φ t.castSucc = Pipeline.ΦDRV osem0 cfg0.spec H0 R0 (V m) (V m) c :=
  if_pos (by rw [fin_N0 t]; rfl)
theorem Phi_succ (c : Dev nD) (t : Fin cfg0.N) : (dats m 0 c).Φ t.succ = Pipeline.ΦDRV osem0 cfg0.spec H0 R0 (V m) (G m) c :=
  if_neg (e := Pipeline.ΦDRV osem0 cfg0.spec H0 R0 (V m) (G m) c) (t := Pipeline.ΦDRV osem0 cfg0.spec H0 R0 (V m) (V m) c) (Nat.succ_ne_zero t.1)

/-- What the body is called with at the point, and what it returns. -/
def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

/-- The body at the point, by `copies`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq, Phi_castSucc, Phi_succ, PhiDRV0_eq, PhiDRV0_eq, G_v1]
  unfold Dat.owesAt Pipeline.owesWithin
  rw [show (dats m 0 c).owed t.castSucc = 0 from rfl, show (dats m 0 c).owed t.succ = 0 from rfl]
  iintro ⟨⟨HS, ⟨Hq1, Hq2⟩, H0, H1⟩, ⟨%W, %hW, HO⟩, -⟩
  iapply (copies c Variants.none Facts₀.squeezes_S1_S_ (Memref.whole main_v0) (Memref.whole main_v1) (Memref.whole cc0_scratch0) cc0_scratch1 cc0_scratch2 (V m c main_v0))
  isplitl [H0]; · iexact H0
  isplitl [H1]
  · unfold Some; iexists _; iexact H1
  isplitl [HS]; · iexact HS
  isplitl [Hq1]; · iexact Hq1
  isplitl [Hq2]; · iexact Hq2
  isplitl [HO]
  · iexists W; iexact HO
  iintro ⟨H0, H1, HS, Hq1, Hq2, ⟨%W', HO⟩⟩
  isplitl [H0 H1 HS Hq1 Hq2]
  · isplitl [HS]; · iexact HS
    isplitl [Hq1 Hq2]
    · isplitl [Hq1]; · iexact Hq1
      iexact Hq2
    isplitl [H0]; · iexact H0
    iexact H1
  isplitl [HO]
  · iexists W'; isplitr; · ipureintro; exact fun _ _ => Or.inl trivial
    iexact HO
  iempintro

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [defs₀_row]
  exact triple_restated (sound_body m c t) rfl .rfl fun _ => .rfl

/-! ## The launch -/

/-- @main around the region, at the algebra the transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer that bypasses the region holds at the end: the last reshape over the buffers as the region leaves them. -/
def finalAt (c : Dev nD) (b : Ref sig .tc) : Buf (Elt F) ((c.tc : Thread nD τ).loc b) :=
  StableHlo.after [hostOps1].flatten (Pipeline.withArrays cfg0.spec c (Pipeline.withR (V0 m c) R0 c (G m c)) fun w => (dats m 0 c).arrAt w cfg0.N) (Proc.devRef .tc b)

set_option backward.isDefEq.respectTransparency.types false in
/-- Every weakly fair run of @main ends, with every bypassing buffer at its final contents and every semaphore at zero. -/
theorem run_main : θ_run defs (onTc (τ := τ) (main (F := F))) (s₀ m ρ)
    (fun r => (∀ c : Dev nD, ∀ b ∈ Pipeline.restRefs sig cfg0.spec, r.2.mem ((c.tc : Thread nD τ).loc b) = finalAt m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c w => w.elim0) (howed := fun _ _ => rfl)
    (V₀ := V0 m) (opss := [hostOps1]) (hsub := sfx_sub) (hfresh := sfx_fresh) (hkeep := sfx_keeps) (G := G m)
    (hmain := hmainD m Variants.none) (hA := fun c w => w.elim0)
    (hin := fun c => (.of_eq rfl)) (hout := fun c => (.of_eq rfl)) (hQ' := fun r h => ⟨fun c => (h.1 c).2, h.2⟩)

/-! ## The buffers at the end -/

/-- A buffer the host operation after the region does not write and the body does not write ends as the region finds it. -/
theorem finalAt_kept (c : Dev nD) (b : Ref sig .tc) (h2 : b ≠ main_v2) (h1 : b ∉ R0) : finalAt m c b = V m c b := by
  unfold finalAt
  rw [StableHlo.after_of_forall_not_mem (b := Proc.devRef .tc b) _ _ (fun op hop => by
      rw [show op = _ from List.mem_singleton.mp hop, StableHlo.reshape_writes, Finset.mem_singleton]
      exact StableHlo.devRef_ne_of_ne h2),
    Pipeline.withArrays_of_ne _ c _ _ b (fun w => w.elim0), Pipeline.withR_of_not_mem _ _ _ _ _ h1]

/-- What the region reads is the flat argument in the source's shape. -/
theorem V_v0 (c : Dev nD) : V m c main_v0 = shapeCast S55x3125x64 (m ((c.tc : Thread nD τ).loc main_arg0)) shapeCasts_S11000000_S55x3125x64 := by
  show StableHlo.after [StableHlo.reshape main_arg0 main_v0 _ _] _ (Proc.devRef .tc main_v0) = _
  rw [StableHlo.after_cons, StableHlo.after_nil, StableHlo.reshape_result]
  rfl

/-- The flat result ends as the flat argument. -/
theorem finalAt_v2 (c : Dev nD) : finalAt m c main_v2 = m ((c.tc : Thread nD τ).loc main_arg0) := by
  unfold finalAt
  show StableHlo.after [StableHlo.reshape main_v1 main_v2 _ _] _ (Proc.devRef .tc main_v2) = _
  rw [StableHlo.after_cons, StableHlo.after_nil, StableHlo.reshape_result,
    Pipeline.withArrays_of_ne _ c _ _ main_v1 (fun w => w.elim0), Pipeline.withR_of_mem _ _ _ _ _ (by decide), G_v1, V_v0]
  exact (shapeCast_comp _ _ _).trans (shapeCast_id _ _)

/-- Every run of @main ends with the result equal to the flat argument, both arguments unchanged and every semaphore at zero. -/
theorem run : θ_run defs (onTc (τ := τ) (main (F := F))) ⟨m, fun _ => 0, ρ⟩
    (fun r => (∀ c : Dev nD, r.2.mem ((c.tc : Thread nD τ).loc main_v2) = m ((c.tc : Thread nD τ).loc main_arg0)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c =>
    ⟨(h.1 c main_v2 (Pipeline.mem_restRefs_of main_v2 (by decide) (by decide))).trans (finalAt_v2 m c),
     (h.1 c main_arg0 (Pipeline.mem_restRefs_of main_arg0 (by decide) (by decide))).trans
       ((finalAt_kept m c main_arg0 (by decide) (by decide)).trans (V_main_arg0 m c)),
     (h.1 c main_arg1 (Pipeline.mem_restRefs_of main_arg1 (by decide) (by decide))).trans
       ((finalAt_kept m c main_arg1 (by decide) (by decide)).trans (V_main_arg1 m c))⟩, h.2⟩) (run_main m ρ)

end Cert.Kernel.Hand

end
-- ==== Proof.KernelIdeal.Run.lean ====
/-
  `KernelIdeal`'s run: nothing of the kernel was rewritten for the ideal instance, so the two programs are the same text, and the run
  proved of `Kernel` at any float instance is `KernelIdeal`'s.
-/
module

public import proofs.«01_k».proof.Proof.Kernel.Run
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F] [∀ e, Nonempty (Elt F e)]

/-- The two programs have the same @main. -/
theorem main_eq_kernel : Cert.Kernel.main (F := F) = Cert.KernelIdeal.main (F := F) := rfl

/-- The two programs have the same functions. -/
theorem defs_eq_kernel : Cert.Kernel.defs (F := F) = Cert.KernelIdeal.defs (F := F) := rfl

/-- Every run of @main ends with the result equal to the flat argument, both arguments unchanged and every semaphore at zero. -/
theorem run (m : (ℓ : Loc nD τ sig) → Buf (Elt F) ℓ) (ρ : Dev nD → PrngReg) :
    θ_run defs (onTc (τ := τ) (main (F := F))) ⟨m, fun _ => 0, ρ⟩
    (fun r => (∀ c : Dev nD, r.2.mem ((c.tc : Thread nD τ).loc main_v2) = m ((c.tc : Thread nD τ).loc main_arg0)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := Cert.Kernel.Hand.run m ρ

end Cert.KernelIdeal.Hand

end
-- ==== Proof.Reads.lean ====
/-
  Reads at an index that the reference needs beside the library's: a gather whose start indices name every coordinate of the operand,
  for a box of indices and for a column of index pairs, and two concatenations, a word put before a vector and two columns side by side.
-/
module

public import Idealize.ShloMosaic.Lib.Routing.OpsSearch
public import Idealize.ShloMosaic.Lib.Routing.OpsPair
public import Idealize.ShloMosaic.Lib.Pointwise.SelectCore

@[expose] public section

namespace Cert.RaggedReads

open Idealize.ShloMosaic hiding ix1 ix2 ix3
open Idealize.ShloMosaic.Routing Idealize.ShloMosaic.ValueIdx Idealize.ShloMosaic.WordCmp

/-! ## Gathers of single elements -/

/-- A gather that collapses every operand axis and starts on every one of them reads the element whose coordinates its start-index
    words hold. -/
theorem gather_at {α : Type} {s si t : Shape} (d : GatherDims s si t) (hcoll : ∀ a, a ∈ d.collapsedSliceDims) (hob : d.operandBatchingDims = [])
    (hm : ∀ a, a ∈ d.startIndexMap) (x : s.Idx → α) (idx : IVec si 32) (j : t.Idx) (i : s.Idx) (h31 : ∀ a, (i a).val < 2 ^ 31)
    (hi : ∀ a, idx (d.siIdx j ⟨d.startIndexMap.idxOf a, List.idxOf_lt_length_iff.2 (hm a)⟩) = BitVec.ofNat 32 (i a).val) :
    Host.gather d x idx j = x i := by
  unfold Host.gather
  refine congrArg x (funext fun a => Fin.ext ?_)
  have hb : a ∉ d.operandBatchingDims := by rw [hob]; exact List.not_mem_nil
  have hk : a ∉ d.sKept := by rw [GatherDims.mem_sKept]; exact fun h => h.1 (hcoll a)
  have hlt := (i a).isLt
  have hsl := d.slice_collapsed a (hcoll a)
  simp only [GatherDims.operandIdx, GatherDims.batchCoord_eq_zero _ _ _ hb, GatherDims.offCoord_eq_zero _ _ _ hk, Nat.add_zero,
    GatherDims.start, dif_pos (hm a), hi a, hsl]
  rw [toInt_ofNat_of_lt (w := 32) (h31 a), Int.toNat_natCast]
  omega

/-- A list that is `u`, read at a position that is `v`, is `u` read there. -/
theorem getElem_of_eq {α : Type} {l u : List α} (hl : l = u) {n v : ℕ} (hn : n = v) (h : n < l.length) (hv : v < u.length) :
    GetElem.getElem l n h = GetElem.getElem u v hv := by
  subst hl; subst hn; rfl

/-- A vector gathered at an `[A, B]` box of positions: entry `(a, b)` is the vector's entry at the position there. -/
theorem gather_box {α : Type} {N A B : ℕ} (d : GatherDims (shape1 N) (shape3 A B 1) (shape2 A B)) (hoff : d.offsetDims = [])
    (hcoll : d.collapsedSliceDims = [0]) (hob : d.operandBatchingDims = []) (hsim : d.startIndexMap = [0]) (hivd : d.indexVectorDim = 2)
    (x : (shape1 N).Idx → α) (idx : IVec (shape3 A B 1) 32) (a : Fin A) (b : Fin B) (k : Fin N) (h31 : k.val < 2 ^ 31)
    (hidx : idx (ix3 a b (0 : Fin 1)) = BitVec.ofNat 32 k.val) : Host.gather d x idx (ix2 a b) = x (ix1 k) := by
  have hm : ∀ q : Fin 1, q ∈ d.startIndexMap := fun q => by rw [hsim, Subsingleton.elim q 0]; exact List.mem_singleton.2 rfl
  have hk : d.siKept = [0, 1] := by
    show (List.finRange 3).filter (fun x => decide (x.val ≠ d.indexVectorDim)) = _
    rw [hivd]; rfl
  have hu : d.batchDims = [0, 1] := by
    show (shape2 A B).kept d.offsetDims = _
    rw [hoff]; rfl
  refine gather_at d (fun q => by rw [hcoll, Subsingleton.elim q 0]; exact List.mem_singleton.2 rfl) hob hm x idx _ _ (fun q => ?_) fun q => ?_
  · rw [Subsingleton.elim q 0]; exact h31
  · obtain rfl : q = 0 := Subsingleton.elim q 0
    refine (congrArg idx (funext fun c => Fin.ext ?_)).trans hidx
    match c with
    | ⟨0, _⟩ =>
      unfold GatherDims.siIdx
      rw [dif_neg (by rw [hivd]; exact (by decide : (0 : ℕ) ≠ 2))]
      unfold GatherDims.siCoord
      simp only [Fin.val_cast]
      rw [getElem_of_eq hu (v := 0) (by rw [hk]; rfl) _ Nat.zero_lt_two]
      rfl
    | ⟨1, _⟩ =>
      unfold GatherDims.siIdx
      rw [dif_neg (by rw [hivd]; exact (by decide : (1 : ℕ) ≠ 2))]
      unfold GatherDims.siCoord
      simp only [Fin.val_cast]
      rw [getElem_of_eq hu (v := 1) (by rw [hk]; rfl) _ Nat.one_lt_two]
      rfl
    | ⟨2, _⟩ =>
      unfold GatherDims.siIdx
      rw [dif_pos (by rw [hivd])]
      show List.idxOf (0 : Fin 1) d.startIndexMap = 0
      rw [hsim]; rfl

/-- A matrix gathered at `n` pairs of positions: entry `p` is the matrix's entry at pair `p`. -/
theorem gather_pair {α : Type} {R C n : ℕ} (d : GatherDims (shape2 R C) (shape2 n 2) (shape1 n))
    (hcoll : d.collapsedSliceDims = [0, 1]) (hob : d.operandBatchingDims = []) (hsim : d.startIndexMap = [0, 1]) (hivd : d.indexVectorDim = 1)
    (x : (shape2 R C).Idx → α) (idx : IVec (shape2 n 2) 32) (p : Fin n) (r : Fin R) (c : Fin C) (hr : r.val < 2 ^ 31) (hc : c.val < 2 ^ 31)
    (h0 : idx (ix2 p (0 : Fin 2)) = BitVec.ofNat 32 r.val) (h1 : idx (ix2 p (1 : Fin 2)) = BitVec.ofNat 32 c.val) :
    Host.gather d x idx (ix1 p) = x (ix2 r c) := by
  have hm : ∀ q : Fin 2, q ∈ d.startIndexMap := fun q => by rw [hsim]; fin_cases q <;> simp
  have hsi : ∀ q : Fin 2, d.siIdx (ix1 p) ⟨d.startIndexMap.idxOf q, List.idxOf_lt_length_iff.2 (hm q)⟩ = ix2 p q := fun q => by
    funext b
    apply Fin.ext
    match b with
    | ⟨0, _⟩ =>
      unfold GatherDims.siIdx
      rw [dif_neg (by rw [hivd]; exact (by decide : (0 : ℕ) ≠ 1))]
      unfold GatherDims.siCoord
      simp only [Fin.val_cast]
      have e : ∀ X : Fin 1, ((ix1 p : (shape1 n).Idx) X).val = p.val := fun X => by rw [Subsingleton.elim X 0]
      exact e _
    | ⟨1, _⟩ =>
      unfold GatherDims.siIdx
      rw [dif_pos (by rw [hivd])]
      show List.idxOf q d.startIndexMap = q.val
      rw [hsim]; fin_cases q <;> rfl
  refine gather_at d (fun q => by rw [hcoll]; fin_cases q <;> simp) hob hm x idx _ _ (fun q => ?_) fun q => ?_
  · match q with
    | ⟨0, _⟩ => exact hr
    | ⟨1, _⟩ => exact hc
  · rw [hsi]
    match q with
    | ⟨0, _⟩ => exact h0
    | ⟨1, _⟩ => exact h1

/-! ## Concatenations -/

/-- A vector of one before a vector of `n`: entry 0 is the first vector's, entry `k + 1` the second's entry `k`. -/
theorem prepend {α : Type} {n n1 : ℕ} (x : (shape1 1).Idx → α) (y : (shape1 n).Idx → α)
    (h : Shape.Concatenates [shape1 1, shape1 n] (shape1 n1) 0) (f : ℕ → α) (hx : x (ix1 (0 : Fin 1)) = f 0)
    (hy : ∀ k : Fin n, y (ix1 k) = f (k.val + 1)) (k : Fin n1) : concatenate (shape1 n1) 0 [⟨shape1 1, x⟩, ⟨shape1 n, y⟩] h (ix1 k) = f k.val := by
  rw [concatenate_pair_apply]
  have hval : ((ix1 k : (shape1 n1).Idx) 0).val = k.val := rfl
  by_cases hk : k.val < 1
  · refine (dif_pos (show ((ix1 k : (shape1 n1).Idx) 0).val < 1 from hk)).trans ?_
    obtain h0 : k.val = 0 := by omega
    rw [h0, ← hx]
    refine congrArg x (funext fun a => ?_)
    match a with
    | ⟨0, _⟩ => exact Subsingleton.elim (α := Fin 1) _ _
  · have hn : ¬ ((ix1 k : (shape1 n1).Idx) 0).val < (shape1 1).size ((0 : Fin 1).cast h.rank_fst.symm) := hk
    have hb := h.snd_lt (ix1 k) hn 0
    have hlt : k.val - 1 < n := hb
    rw [dif_neg hn]
    have e := hy ⟨k.val - 1, hlt⟩
    rw [show (⟨k.val - 1, hlt⟩ : Fin n).val + 1 = k.val by show k.val - 1 + 1 = k.val; omega] at e
    rw [← e]
    refine congrArg y (funext fun a => Fin.ext ?_)
    match a with
    | ⟨0, _⟩ => rfl

/-- Two columns side by side: column 0 is the first's, column 1 the second's. -/
theorem columns {α : Type} {n : ℕ} (x y : (shape2 n 1).Idx → α) (h : Shape.Concatenates [shape2 n 1, shape2 n 1] (shape2 n 2) 1) (p : Fin n) :
    concatenate (shape2 n 2) 1 [⟨shape2 n 1, x⟩, ⟨shape2 n 1, y⟩] h (ix2 p (0 : Fin 2)) = x (ix2 p (0 : Fin 1))
      ∧ concatenate (shape2 n 2) 1 [⟨shape2 n 1, x⟩, ⟨shape2 n 1, y⟩] h (ix2 p (1 : Fin 2)) = y (ix2 p (0 : Fin 1)) := by
  constructor
  · rw [concatenate_pair_apply]
    refine (dif_pos (show ((ix2 p (0 : Fin 2) : (shape2 n 2).Idx) 1).val < 1 from Nat.zero_lt_one)).trans ?_
    refine congrArg x (funext fun a => Fin.ext ?_)
    match a with
    | ⟨0, _⟩ => rfl
    | ⟨1, _⟩ => rfl
  · rw [concatenate_pair_apply]
    refine (dif_neg (show ¬ ((ix2 p (1 : Fin 2) : (shape2 n 2).Idx) 1).val < 1 from Nat.lt_irrefl 1)).trans ?_
    refine congrArg y (funext fun a => Fin.ext ?_)
    match a with
    | ⟨0, _⟩ => rfl
    | ⟨1, _⟩ => rfl

end Cert.RaggedReads
-- ==== Proof.Ragged.lean ====
/-
  Where a position of a ragged array falls, over natural numbers: rows of lengths `f 0, f 1, …` laid end to end, row `r` starting at
  `cu f r`; a position before the end of `n` rows lies in exactly the row that the number of starts up to it tells.
-/
module

public import Idealize.ShloMosaic.Lib.Routing.Count

@[expose] public section

namespace Cert.RaggedReads

open Idealize.ShloMosaic.Routing

/-- Where row `k` starts: the sum of the lengths of the rows before it. -/
def cu (f : ℕ → ℕ) (k : ℕ) : ℕ := ((List.range k).map f).sum

/-- A row ends where the next starts. -/
theorem cu_succ (f : ℕ → ℕ) (k : ℕ) : cu f (k + 1) = cu f k + f k := by
  unfold cu; rw [List.range_succ, List.map_append, List.sum_append]; simp

/-- Later rows start no earlier. -/
theorem cu_mono (f : ℕ → ℕ) {a b : ℕ} (h : a ≤ b) : cu f a ≤ cu f b := by
  induction b, h using Nat.le_induction with
  | base => exact le_rfl
  | succ b _ ih => rw [cu_succ]; omega

/-- Rows of at most `B` elements start no later than `B` times their number. -/
theorem cu_le (f : ℕ → ℕ) (B : ℕ) (h : ∀ i, f i ≤ B) (k : ℕ) : cu f k ≤ B * k := by
  induction k with
  | zero => exact le_rfl
  | succ k ih => rw [cu_succ, Nat.mul_succ]; have := h k; omega

/-- Of a position before the end of the `n` rows, the number of starts up to it is one more than the row it lies in. -/
theorem row_of (f : ℕ → ℕ) (n p : ℕ) (hp : p < cu f n) :
    ∃ r, Nat.count (fun j => cu f j ≤ p) (n + 1) = r + 1 ∧ r < n ∧ cu f r ≤ p ∧ p < cu f r + f r := by
  have hQ : ∀ a b, a ≤ b → b < n + 1 → cu f b ≤ p → cu f a ≤ p := fun a b h _ hb => (cu_mono f h).trans hb
  have h0 : 0 < Nat.count (fun j => cu f j ≤ p) (n + 1) := (lt_count_iff hQ (Nat.succ_pos n)).1 (Nat.zero_le p)
  have hn : ¬ n < Nat.count (fun j => cu f j ≤ p) (n + 1) := fun h => by
    have := (lt_count_iff hQ (Nat.lt_succ_self n)).2 h; omega
  obtain ⟨r, hr⟩ : ∃ r, Nat.count (fun j => cu f j ≤ p) (n + 1) = r + 1 := ⟨_, (Nat.succ_pred_eq_of_pos h0).symm⟩
  have hrn : r < n := by omega
  have h1 : cu f r ≤ p := (lt_count_iff hQ (by omega : r < n + 1)).2 (by omega)
  have h2 : ¬ cu f (r + 1) ≤ p := fun h => by
    have := (lt_count_iff hQ (by omega : r + 1 < n + 1)).1 h; omega
  rw [cu_succ] at h2
  exact ⟨r, hr, hrn, h1, by omega⟩

end Cert.RaggedReads
-- ==== Proof.Reference.lean ====
/-
  The reference read at an index. It packs the ragged rows of `flat` into a table of 10 columns and lays the table's valid elements end
  to end again; with row lengths from 0 to 10 that sum to at least the length of `flat`, its result is `flat`.
  The stages of its term are named here, each read as the index word of a natural; `value` is the result.
-/
module

public import proofs.«01_k».proof.Proof.Reads
public import proofs.«01_k».proof.Proof.Ragged
public import proofs.«01_k».proof.Proof.Gen.ReferenceIdeal.Run

@[expose] public section

noncomputable section

namespace Cert.ReferenceIdeal.Hand

open Cert.ReferenceIdeal Cert.ReferenceIdeal.Gen Cert.RaggedReads
open Idealize.ShloMosaic hiding ix1 ix2 ix3
open Idealize.ShloMosaic.TcCoe Idealize.ShloMosaic.Routing Idealize.ShloMosaic.ValueIdx Idealize.ShloMosaic.WordCmp

variable {F : FTy → Type} [FloatOps F]

/-- The word `k` at every index of a one-axis array of words. -/
abbrev word1 (k : BitVec 32) : IVec S11000000 32 := broadcastInDim S11000000 ![] bcast_S_S11000000 (constantI S_ 32 k)

/-- The word `k` at every index of the table. -/
abbrev word2 (k : BitVec 32) : IVec S2000000x10 32 := broadcastInDim S2000000x10 ![] bcast_S_S2000000x10 (constantI S_ 32 k)

/-- A zero and the running sums of `x`: where each row starts. -/
def starts (x : IVec S2000000 32) : IVec S2000001 32 :=
  concatenate S2000001 0 [⟨S1, broadcastInDim S1 ![] bcast_S_S1 (constantI S_ 32 0#32)⟩,
    ⟨S2000000, Host.reduceWindow IntOp.addi ![2000000] ![1] ![1999999] ![0] x (broadcastInDim S_ ![] bcast_S_S_ (constantI S_ 32 0#32))
      reduceWindows_S2000000_S2000000_w2000000s1p1999999_0 h_S_⟩] concatenates_S1_S2000000_S2000001_d0

/-- The row lengths, cut at 10. -/
def lens (x : IVec S2000000 32) : IVec S2000000 32 :=
  minsi x (broadcastInDim S2000000 ![] bcast_S_S2000000 (constantI S_ 32 10#32))

/-- The number of each column, over the table. -/
def columnOf : IVec S2000000x10 32 :=
  broadcastInDim S2000000x10 ![0, 1] bcast_S1x10_S2000000x10_0_1 (broadcastInDim S1x10 ![1] bcast_S10_S1x10_1 (iotaInDim S10 32 0))

/-- Where in `flat` each entry of the table is read: the row's start plus the column. -/
def source (x : IVec S2000000 32) : IVec S2000000x10 32 :=
  addi (broadcastInDim S2000000x10 ![0, 1] bcast_S2000000x1_S2000000x10_0_1
    (broadcastInDim S2000000x1 ![0] bcast_S2000000_S2000000x1_0 (extractStridedSlice S2000000 ![0] (starts x) slices_S2000001_S2000000_0))) columnOf

/-- The same held within `flat`. -/
def clipped (x : IVec S2000000 32) : IVec S2000000x10 32 :=
  minsi (broadcastInDim S2000000x10 ![] bcast_S_S2000000x10 (id (constantI S_ 32 10999999#32)))
    (maxsi (broadcastInDim S2000000x10 ![] bcast_S_S2000000x10 (id (constantI S_ 32 0#32))) (source x))

/-- The table: each row's elements of `flat`, zeros after its length. -/
def table (fl : S11000000.Idx → F .f32) (x : IVec S2000000 32) : S2000000x10.Idx → F .f32 :=
  select (cmpi .slt columnOf (broadcastInDim S2000000x10 ![0, 1] bcast_S2000000x1_S2000000x10_0_1
      (broadcastInDim S2000000x1 ![0] bcast_S2000000_S2000000x1_0 (lens x))))
    (Host.gather gather_S11000000_S2000000x10x1_S2000000x10_n_0_n_n_0_2_1 fl
      (broadcastInDim S2000000x10x1 ![0, 1] bcast_S2000000x10_S2000000x10x1_0_1
        (select (cmpi .slt (clipped x) (word2 0#32)) (addi (clipped x) (word2 11000000#32)) (clipped x))))
    (broadcastInDim S2000000x10 ![] bcast_S_S2000000x10 (id (constant S_ .f32 0x00000000#32)))

/-- The row of each position of the output: one less than the number of starts up to it. -/
def row (x : IVec S2000000 32) : IVec S11000000 32 :=
  subi (Host.reduce IntOp.addi (extui 32 (cmpi .sle
      (broadcastInDim S11000000x2000001 ![0, 1] bcast_S1x2000001_S11000000x2000001_0_1
        (broadcastInDim S1x2000001 ![1] bcast_S2000001_S1x2000001_1 (starts (lens x))))
      (broadcastInDim S11000000x2000001 ![0, 1] bcast_S11000000x1_S11000000x2000001_0_1
        (broadcastInDim S11000000x1 ![0] bcast_S11000000_S11000000x1_0 (iotaInDim S11000000 32 0)))) natLt_1_32)
    (constantI S_ 32 0#32) reducesTo_S11000000x2000001_S11000000_d1 h_S_) (word1 1#32)

/-- An index word counted from the end when it is negative, `k` being the axis' size. -/
def wrapped (k : BitVec 32) (y : IVec S11000000 32) : IVec S11000000 32 :=
  select (cmpi .slt y (word1 0#32)) (addi y (word1 k)) y

/-- The column of each position of the output: the position less its row's start. -/
def column (x : IVec S2000000 32) : IVec S11000000 32 :=
  subi (iotaInDim S11000000 32 0) (Host.gather gather_S2000001_S11000000x1_S11000000_n_0_n_n_0_1_1 (starts (lens x))
    (broadcastInDim S11000000x1 ![0] bcast_S11000000_S11000000x1_0 (wrapped 2000001#32 (row x))))

/-- The output: the table read at each position's row and column. -/
def result (fl : S11000000.Idx → F .f32) (x : IVec S2000000 32) : S11000000.Idx → F .f32 :=
  Host.gather gather_S2000000x10_S11000000x2_S11000000_n_01_n_n_01_1_11 (table fl x)
    (concatenate S11000000x2 1 [⟨S11000000x1, broadcastInDim S11000000x1 ![0] bcast_S11000000_S11000000x1_0 (wrapped 2000000#32 (row x))⟩,
      ⟨S11000000x1, broadcastInDim S11000000x1 ![0] bcast_S11000000_S11000000x1_0 (wrapped 10#32 (column x))⟩]
      concatenates_S11000000x1_S11000000x1_S11000000x2_d1)

set_option maxRecDepth 8192 in
/-- The reference's term is those stages. -/
theorem res_eq (m : (ℓ : Loc nD τ sig) → Buf (Elt F) ℓ) (c : Dev nD) :
    Value.res_main_v60 m c = result (m ((c.tc : Thread nD τ).loc main_arg0)) (m ((c.tc : Thread nD τ).loc main_arg1)) := by
  unfold Value.res_main_v60 result table row column wrapped clipped source columnOf starts lens
  rfl

section Reads

variable (x : IVec S2000000 32) (f : ℕ → ℕ)

/-- With lengths up to 10 the cut changes none. -/
theorem lens_eq (hx : ∀ i : Fin 2000000, x (ix1 i) = BitVec.ofNat 32 (f i.val)) (hf : ∀ i, f i ≤ 10) : lens x = x := by
  funext i
  obtain ⟨k, rfl⟩ : ∃ k : Fin 2000000, i = ix1 k := ⟨i 0, (ix1_eta i).symm⟩
  have hk := hf k.val
  show IntOp.minsi (x (ix1 k)) _ = x (ix1 k)
  rw [show broadcastInDim S2000000 ![] bcast_S_S2000000 (constantI S_ 32 10#32) (ix1 k) = BitVec.ofNat 32 10 from rfl, hx k]
  unfold IntOp.minsi
  rw [slt_ofNat32 (by omega) (by omega)]
  split
  · rfl
  · rename_i h
    have : f k.val = 10 := by simpa using Nat.le_antisymm hk (by simpa using h)
    rw [this]

/-- The start of row `k`. -/
theorem starts_at (hx : ∀ i : Fin 2000000, x (ix1 i) = BitVec.ofNat 32 (f i.val)) (k : Fin 2000001) :
    starts x (ix1 k) = BitVec.ofNat 32 (cu f k.val) :=
  prepend _ _ _ (fun k => BitVec.ofNat 32 (cu f k)) rfl (fun k => cumsum1 rfl x f hx _ rfl _ _ k) k

/-- A word below the sign bit is left as it is. -/
theorem wrapped_at (k : BitVec 32) (y : IVec S11000000 32) (p : Fin 11000000) (a : ℕ) (ha : a < 2 ^ 31) (hy : y (ix1 p) = BitVec.ofNat 32 a) :
    wrapped k y (ix1 p) = BitVec.ofNat 32 a := by
  have h : (y (ix1 p)).toNat < 2 ^ (32 - 1) := by rw [hy, toNat_ofNat_of_lt (by omega)]; omega
  exact (wrap_of_lt (y (ix1 p)) _ h).trans hy

/-- The starts of rows of at most 10 elements stay below 20,000,000. -/
theorem cu_lt (hf : ∀ i, f i ≤ 10) {k : ℕ} (hk : k < 2000001) : cu f k ≤ 20000000 := (cu_le f 10 hf k).trans (by omega)

/-- The row a position lies in: `r`, when the starts up to the position number `r + 1`. -/
theorem row_at (hx : ∀ i : Fin 2000000, x (ix1 i) = BitVec.ofNat 32 (f i.val)) (hf : ∀ i, f i ≤ 10) (p : Fin 11000000) (r : ℕ)
    (hr : Nat.count (fun j => cu f j ≤ p.val) (2000000 + 1) = r + 1) : row x (ix1 p) = BitVec.ofNat 32 r := by
  unfold row
  rw [lens_eq x f hx hf, subi_ap]
  have h := reduce_count (n := 11000000) (m := 2000001) (by omega) (cmpi .sle
      (broadcastInDim S11000000x2000001 ![0, 1] bcast_S1x2000001_S11000000x2000001_0_1
        (broadcastInDim S1x2000001 ![1] bcast_S2000001_S1x2000001_1 (starts x)))
      (broadcastInDim S11000000x2000001 ![0, 1] bcast_S11000000x1_S11000000x2000001_0_1
        (broadcastInDim S11000000x1 ![0] bcast_S11000000_S11000000x1_0 (iotaInDim S11000000 32 0)))) natLt_1_32
    reducesTo_S11000000x2000001_S11000000_d1 h_S_ p (fun j => cu f j ≤ p.val) (fun q => by
      have hq := cu_lt f hf q.isLt
      have hp := p.isLt
      rw [cmpi_at]
      refine (Iff.of_eq (congrArg (· = 1#1) (congrArg₂ (IntOp.cmpi .sle) ?_ ?_))).trans
        (cmpi_sle_ofNat_eq_one_iff (w := 32) (a := cu f q.val) (b := p.val) (by omega) (by omega))
      · exact (bcCols _ _ _ p q).trans (starts_at x f hx q)
      · exact (bcRows _ _ _ p q).trans (iota1_ap p))
  refine (congrArg₂ (· - ·) (h.trans (congrArg (BitVec.ofNat 32) hr)) rfl).trans ?_
  exact (ofNat32_sub (a := r + 1) (b := 1) (by omega)).trans (congrArg (BitVec.ofNat 32) (by omega))

/-- The column of a position of row `r`: the position less the row's start. -/
theorem column_at (hx : ∀ i : Fin 2000000, x (ix1 i) = BitVec.ofNat 32 (f i.val)) (hf : ∀ i, f i ≤ 10) (p : Fin 11000000) (r : ℕ)
    (hrn : r < 2000000) (hrow : row x (ix1 p) = BitVec.ofNat 32 r) (hle : cu f r ≤ p.val) :
    column x (ix1 p) = BitVec.ofNat 32 (p.val - cu f r) := by
  unfold column
  rw [lens_eq x f hx hf, subi_ap]
  refine (congrArg₂ (· - ·) (iota1_ap p) ?_).trans (ofNat32_sub hle)
  refine (take_ap _ rfl rfl rfl rfl _ _ p (k := r) (by omega) (by omega) ?_).trans (starts_at x f hx ⟨r, by omega⟩)
  exact (bcCol _ _ p).trans (wrapped_at _ _ p r (by omega) hrow)

/-- A valid entry of the table: row `r`, column `c` below the row's length holds the element `c` after the row's start. -/
theorem table_at (fl : S11000000.Idx → F .f32) (hx : ∀ i : Fin 2000000, x (ix1 i) = BitVec.ofNat 32 (f i.val)) (hf : ∀ i, f i ≤ 10)
    (r : Fin 2000000) (c : Fin 10) (hc : c.val < f r.val) (p : Fin 11000000) (hp : cu f r.val + c.val = p.val) :
    table fl x (ix2 r c) = fl (ix1 p) := by
  have hcol : columnOf (ix2 r c) = BitVec.ofNat 32 c.val := (bcCols _ _ _ r c).trans (iota1_ap c)
  have hsrc : source x (ix2 r c) = BitVec.ofNat 32 p.val := by
    unfold source
    rw [addi_ap, hcol]
    refine (congrArg (· + BitVec.ofNat 32 c.val) ((bcRows _ _ _ r c).trans ((slice1 0 (starts x) _ r (by omega)).trans
      (starts_at x f hx ⟨0 + r.val, by omega⟩)))).trans ?_
    exact (addi_ofNat _ _).trans (congrArg (BitVec.ofNat 32) (by simpa using hp))
  have hp' := p.isLt
  have hclip : clipped x (ix2 r c) = BitVec.ofNat 32 p.val := by
    refine (congrArg (fun y => IntOp.minsi (BitVec.ofNat 32 10999999) (IntOp.maxsi (BitVec.ofNat 32 0) y)) hsrc).trans ?_
    exact (clip_word (by omega) (by omega) (by omega)).trans (congrArg (BitVec.ofNat 32) (by omega))
  have hfr := hf r.val
  have hc' := c.isLt
  unfold table
  rw [select_at]
  refine (select_of_eq_one ?_ _ _).trans ?_
  · rw [cmpi_at, hcol]
    refine (congrArg (IntOp.cmpi .slt (BitVec.ofNat 32 c.val)) ((bcRows _ _ _ r c).trans (?_ : _ = BitVec.ofNat 32 (f r.val)))).trans
      ((cmpi_slt_ofNat_eq_one_iff (w := 32) (by omega) (by omega)).2 hc)
    rw [lens_eq x f hx hf, hx r]
  · refine gather_box _ rfl rfl rfl rfl rfl _ _ r c p (by omega) ?_
    refine (bcLane _ _ r c).trans ?_
    rw [select_at]
    exact (wrap_of_lt (clipped x (ix2 r c)) _ (by rw [hclip, toNat_ofNat_of_lt (by omega)]; omega)).trans hclip

/-- With row lengths from 0 to 10 that sum to at least the length of `flat`, the output is `flat`. -/
theorem result_eq (fl : S11000000.Idx → F .f32) (hx : ∀ i : Fin 2000000, x (ix1 i) = BitVec.ofNat 32 (f i.val)) (hf : ∀ i, f i ≤ 10)
    (hsum : 11000000 ≤ cu f 2000000) : result fl x = fl := by
  funext i
  obtain ⟨p, rfl⟩ : ∃ p : Fin 11000000, i = ix1 p := ⟨i 0, (ix1_eta i).symm⟩
  have hp := p.isLt
  obtain ⟨r, hr, hrn, hle, hlt⟩ := row_of f 2000000 p.val (by omega)
  have hrow := row_at x f hx hf p r hr
  have hcol := column_at x f hx hf p r hrn hrow hle
  have hfr := hf r
  unfold result
  refine (gather_pair _ rfl rfl rfl rfl _ _ p ⟨r, hrn⟩ ⟨p.val - cu f r, by omega⟩ (by show r < _; omega) (by show p.val - cu f r < _; omega)
    ?_ ?_).trans (table_at x f fl hx hf ⟨r, hrn⟩ ⟨p.val - cu f r, by omega⟩ (by show p.val - cu f r < f r; omega) p
      (by show cu f r + (p.val - cu f r) = p.val; omega))
  · exact ((columns _ _ _ p).1.trans (bcCol _ _ p)).trans (wrapped_at _ _ p r (by omega) hrow)
  · exact ((columns _ _ _ p).2.trans (bcCol _ _ p)).trans (wrapped_at _ _ p (p.val - cu f r) (by omega) hcol)

end Reads

end Cert.ReferenceIdeal.Hand

end
-- ==== Proof.Precondition.lean ====
/-
  What the precondition `ragged` says of the row lengths, over natural numbers: each is at most 10, and their sum is at least the
  length of `flat`.
-/
module

public import proofs.«01_k».proof.Proof.Ragged
public import proofs.«01_k».proof.Proof.Gen.Pre_ragged
public import Idealize.ShloMosaic.Lib.Routing.OpsSearch
public import Idealize.ShloMosaic.Lib.ReduceAll

@[expose] public section

noncomputable section

namespace Cert.Pre_ragged.Hand

open Cert.Pre_ragged Cert.Pre_ragged.Gen Cert.RaggedReads
open Idealize.ShloMosaic
open Idealize.ShloMosaic.Routing Idealize.ShloMosaic.ValueIdx Idealize.ShloMosaic.WordCmp

variable {F : FTy → Type} [FloatOps F]

/-- The row lengths as natural numbers, 0 past the last row. -/
def len (x : IVec S2000000 32) (i : ℕ) : ℕ := if h : i < 2000000 then (x (ix1 ⟨i, h⟩)).toNat else 0

/-- A row length is the index word of its natural number. -/
theorem len_word (x : IVec S2000000 32) (i : Fin 2000000) : x (ix1 i) = BitVec.ofNat 32 (len x i.val) := by
  unfold len; rw [dif_pos i.isLt]; rw [BitVec.ofNat_toNat, BitVec.setWidth_eq]

/-- Under the precondition every row length is at most 10. -/
theorem len_le (fl : FVec F S11000000 .f32) (x : IVec S2000000 32) (h : fn (F := F) fl x = fun _ => 1#1) (i : ℕ) : len x i ≤ 10 := by
  unfold len
  split
  · rename_i hi
    have h0 := (IntOp.andi_eq_one.1 (congrFun h ix0)).1
    have : Subsingleton S_.Idx := ⟨fun a b => funext fun q => q.elim0⟩
    have h1 := Host.reduce_andi_all _ _ _ _ ix0 h0 (ix1 ⟨i, hi⟩)
    obtain ⟨hge, hle⟩ := IntOp.andi_eq_one.1 h1
    have hge' : IntOp.cmpi .sge (x (ix1 ⟨i, hi⟩)) 0#32 = 1#1 := hge
    have hle' : IntOp.cmpi .sle (x (ix1 ⟨i, hi⟩)) (BitVec.ofNat 32 10) = 1#1 := hle
    rw [cmpi_sge_zero, ofBool_decide_eq_one_iff] at hge'
    rw [cmpi_sle_of_lt hge' (by decide), ofBool_decide_eq_one_iff] at hle'
    exact hle'
  · omega

/-- Under the precondition the row lengths sum to at least the length of `flat`. -/
theorem le_total (fl : FVec F S11000000 .f32) (x : IVec S2000000 32) (h : fn (F := F) fl x = fun _ => 1#1) :
    11000000 ≤ cu (len x) 2000000 := by
  have hle := cu_le (len x) 10 (len_le fl x h) 2000000
  have h0 := (IntOp.andi_eq_one.1 (congrFun h ix0)).2
  have h1 : IntOp.cmpi .sge (Host.reduce IntOp.addi x (constantI S_ 32 0#32) Facts.reducesTo_S2000000_S_d0 Facts.h_S_ ix0) (BitVec.ofNat 32 11000000) = 1#1 := h0
  rw [show Host.reduce IntOp.addi x (constantI S_ 32 0#32) Facts.reducesTo_S2000000_S_d0 Facts.h_S_ ix0 = BitVec.ofNat 32 (cu (len x) 2000000) from
    reduce_sum (N := 2000000) x (len x) (len_word x) _ _] at h1
  exact (cmpi_sge_ofNat_eq_one_iff (w := 32) (by omega) (by omega)).1 h1

end Cert.Pre_ragged.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ragged
public import Idealize.ShloMosaic.Adequacy
public import Idealize.ShloMosaic.Init
public import Idealize.ShloMosaic.Lib.Quiescent
public import proofs.«01_k».proof.Proof.Kernel.Run
public import proofs.«01_k».proof.Proof.KernelIdeal.Run
public import proofs.«01_k».proof.Proof.Reference
public import proofs.«01_k».proof.Proof.Precondition

@[expose] public section

noncomputable section

namespace Cert.Proof

open Idealize.ShloMosaic Idealize.ShloMosaic.TcCoe Idealize.SL.Sem

/-- The copy program leaves its arguments and every counter at zero: a part of its run. -/
theorem kernel_frame : quiescent_Kernel (hKernel := Cert.Kernel.Gen.facts) := fun m g _ =>
  (θ_run _ _ _).mono (fun _ h => ⟨fun c => (h.1 c).2, h.2⟩) (Cert.Kernel.Hand.run m g)

/-- The same of its ideal form. -/
theorem kernelIdeal_frame : quiescent_KernelIdeal (hKernelIdeal := Cert.KernelIdeal.Gen.facts) := fun m g _ =>
  (θ_run _ _ _).mono (fun _ h => ⟨fun c => (h.1 c).2, h.2⟩) (Cert.KernelIdeal.Hand.run m g)

/-- The reference leaves its arguments; it has no counter. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Where the row lengths satisfy the precondition the reference's result is its first argument. -/
theorem reference_value (m : (ℓ : Loc Cert.ReferenceIdeal.nD Cert.ReferenceIdeal.τ Cert.ReferenceIdeal.sig) → Buf (Elt Ideal) ℓ) (c : Dev Cert.ReferenceIdeal.nD)
    (fl : FVec Ideal Cert.Pre_ragged.S11000000 .f32)
    (h : Cert.Pre_ragged.fn (F := Ideal) fl (m ((c.tc : Thread Cert.ReferenceIdeal.nD Cert.ReferenceIdeal.τ).loc Cert.ReferenceIdeal.main_arg1)) = fun _ => 1#1) :
    Cert.ReferenceIdeal.Value.res_main_v60 m c = m ((c.tc : Thread Cert.ReferenceIdeal.nD Cert.ReferenceIdeal.τ).loc Cert.ReferenceIdeal.main_arg0) :=
  (Cert.ReferenceIdeal.Hand.res_eq m c).trans (Cert.ReferenceIdeal.Hand.result_eq _ _ _ (Cert.Pre_ragged.Hand.len_word _)
    (Cert.Pre_ragged.Hand.len_le fl _ h) (Cert.Pre_ragged.Hand.le_total fl _ h))

/-- From equal arguments the copy program and the reference end at the same result, `flat`. -/
theorem value : algebraic_KernelIdeal_ReferenceIdeal_pre_ragged (hKernelIdeal := Cert.KernelIdeal.Gen.facts)
    (hReferenceIdeal := Cert.ReferenceIdeal.Gen.facts) (hPre_ragged := Cert.Pre_ragged.Gen.facts) := fun m g m' g' hpre heq =>
  ⟨fun c => m ((c.tc : Thread Cert.KernelIdeal.nD Cert.KernelIdeal.τ).loc Cert.KernelIdeal.main_arg0),
    (θ_run _ _ _).mono (fun _ h c => h.1 c) (Cert.KernelIdeal.Hand.run m g),
    (θ_run _ _ _).mono (fun _ h c => ⟨(h c).1.trans ((reference_value m' c _ (by
      rw [(heq c).2]; exact hpre c)).trans (heq c).1), (h c).2⟩) (Cert.ReferenceIdeal.Value.run m' g')⟩

/-- Every claim of the certificate. -/
theorem claim : Cert.Claim := ⟨Cert.Kernel.Gen.facts, Cert.KernelIdeal.Gen.facts, Cert.ReferenceIdeal.Gen.facts, Cert.Pre_ragged.Gen.facts,
  kernel_frame, kernelIdeal_frame, fun m g _ => kernelIdeal_frame m g trivial, reference_frame, fun m g _ => reference_frame m g trivial, trivial, value⟩

end Cert.Proof

end
